-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1568x384 : Shape := ⟨3, ![8, 1568, 384]⟩
abbrev S1x384 : Shape := ⟨2, ![1, 384]⟩
abbrev S1 : Shape := ⟨1, ![1]⟩
abbrev S_ : Shape := ⟨0, ![]⟩
abbrev S2 : Shape := ⟨1, ![2]⟩
abbrev S1x1 : Shape := ⟨2, ![1, 1]⟩
abbrev S8x1568 : Shape := ⟨2, ![8, 1568]⟩
abbrev S8x1x1568 : Shape := ⟨3, ![8, 1, 1568]⟩
abbrev S8x196x384 : Shape := ⟨3, ![8, 196, 384]⟩
abbrev S1x1568x384 : Shape := ⟨3, ![1, 1568, 384]⟩
abbrev S1x1x1568 : Shape := ⟨3, ![1, 1, 1568]⟩
abbrev S1x196x384 : Shape := ⟨3, ![1, 196, 384]⟩
abbrev S1568x1568 : Shape := ⟨2, ![1568, 1568]⟩
abbrev S1568x1 : Shape := ⟨2, ![1568, 1]⟩
abbrev S7x224 : Shape := ⟨2, ![7, 224]⟩
abbrev S1568x384 : Shape := ⟨2, ![1568, 384]⟩
abbrev S1568 : Shape := ⟨1, ![1568]⟩
abbrev S1x1568 : Shape := ⟨2, ![1, 1568]⟩
abbrev S224x1568 : Shape := ⟨2, ![224, 1568]⟩
abbrev S224x1 : Shape := ⟨2, ![224, 1]⟩
abbrev S1x224x1568 : Shape := ⟨3, ![1, 224, 1568]⟩
abbrev S1x1x1 : Shape := ⟨3, ![1, 1, 1]⟩
abbrev S224 : Shape := ⟨1, ![224]⟩
abbrev S1x224 : Shape := ⟨2, ![1, 224]⟩
abbrev S1x7x224 : Shape := ⟨3, ![1, 7, 224]⟩
abbrev S196x1568 : Shape := ⟨2, ![196, 1568]⟩
abbrev S196x1 : Shape := ⟨2, ![196, 1]⟩
abbrev S1x196 : Shape := ⟨2, ![1, 196]⟩
abbrev S196x384 : Shape := ⟨2, ![196, 384]⟩

abbrev nBuf : Space → Nat
  | .hbm => 283
  | .vmem => 12
  | .smem => 0
  | _ => 0

abbrev hbmTy0_0 (i : Nat) : BufTy := match i % 128 with
  | 0 => ⟨S8x1568x384, .f32⟩
  | 1 => ⟨S1x384, .f32⟩
  | 2 => ⟨S1, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S8x1568, .i64⟩
  | 24 => ⟨S8x1568, .i64⟩
  | 25 => ⟨S_, .i64⟩
  | 26 => ⟨S8x1568, .i64⟩
  | 27 => ⟨S8x1568, .i64⟩
  | 28 => ⟨S_, .i64⟩
  | 29 => ⟨S8x1568, .i64⟩
  | 30 => ⟨S8x1568, .i64⟩
  | 31 => ⟨S8x1568, .i64⟩
  | 32 => ⟨S_, .i64⟩
  | 33 => ⟨S8x1568, .i64⟩
  | 34 => ⟨S8x1568, .i64⟩
  | 35 => ⟨S8x1568, .i32⟩
  | 36 => ⟨S8x1568, .i32⟩
  | 37 => ⟨S_, .i32⟩
  | 38 => ⟨S_, .i32⟩
  | 39 => ⟨S_, .i32⟩
  | 40 => ⟨S8x1568, .i32⟩
  | 41 => ⟨S8x1568, .i32⟩
  | 42 => ⟨S8x1568, .i32⟩
  | 43 => ⟨S8x1568, .i32⟩
  | 44 => ⟨S8x1568, .i32⟩
  | 45 => ⟨S_, .i32⟩
  | 46 => ⟨S8x1568, .i32⟩
  | 47 => ⟨S8x1568, .i32⟩
  | 48 => ⟨S_, .i32⟩
  | 49 => ⟨S8x1568, .i32⟩
  | 50 => ⟨S8x1568, .i32⟩
  | 51 => ⟨S8x1568, .i32⟩
  | 52 => ⟨S8x1568, .i32⟩
  | 53 => ⟨S8x1568, .i32⟩
  | 54 => ⟨S_, .i32⟩
  | 55 => ⟨S8x1568, .i32⟩
  | 56 => ⟨S8x1568, .i32⟩
  | 57 => ⟨S_, .i32⟩
  | 58 => ⟨S8x1568, .i32⟩
  | 59 => ⟨S8x1568, .i32⟩
  | 60 => ⟨S8x1568, .i32⟩
  | 61 => ⟨S8x1568, .i32⟩
  | 62 => ⟨S8x1568, .i32⟩
  | 63 => ⟨S_, .i32⟩
  | 64 => ⟨S8x1568, .i32⟩
  | 65 => ⟨S8x1568, .i32⟩
  | 66 => ⟨S_, .i32⟩
  | 67 => ⟨S8x1568, .i32⟩
  | 68 => ⟨S8x1568, .i32⟩
  | 69 => ⟨S8x1568, .i32⟩
  | 70 => ⟨S8x1568, .i32⟩
  | 71 => ⟨S8x1568, .i32⟩
  | 72 => ⟨S_, .i32⟩
  | 73 => ⟨S8x1568, .i32⟩
  | 74 => ⟨S8x1568, .i32⟩
  | 75 => ⟨S_, .i32⟩
  | 76 => ⟨S8x1568, .i32⟩
  | 77 => ⟨S8x1568, .i32⟩
  | 78 => ⟨S8x1568, .i32⟩
  | 79 => ⟨S8x1568, .i32⟩
  | 80 => ⟨S8x1568, .i32⟩
  | 81 => ⟨S8x1568, .i32⟩
  | 82 => ⟨S8x1568, .i32⟩
  | 83 => ⟨S8x1568, .i32⟩
  | 84 => ⟨S_, .i32⟩
  | 85 => ⟨S8x1568, .i32⟩
  | 86 => ⟨S8x1568, .i32⟩
  | 87 => ⟨S8x1568, .i32⟩
  | 88 => ⟨S_, .i32⟩
  | 89 => ⟨S8x1568, .i32⟩
  | 90 => ⟨S8x1568, .i32⟩
  | 91 => ⟨S_, .i32⟩
  | 92 => ⟨S8x1568, .i32⟩
  | 93 => ⟨S8x1568, .i32⟩
  | 94 => ⟨S8x1568, .i32⟩
  | 95 => ⟨S8x1568, .i32⟩
  | 96 => ⟨S8x1568, .i32⟩
  | 97 => ⟨S_, .i32⟩
  | 98 => ⟨S8x1568, .i32⟩
  | 99 => ⟨S8x1568, .i32⟩
  | 100 => ⟨S_, .i32⟩
  | 101 => ⟨S8x1568, .i32⟩
  | 102 => ⟨S8x1568, .i32⟩
  | 103 => ⟨S8x1568, .i32⟩
  | 104 => ⟨S8x1568, .i32⟩
  | 105 => ⟨S8x1568, .i32⟩
  | 106 => ⟨S_, .i32⟩
  | 107 => ⟨S8x1568, .i32⟩
  | 108 => ⟨S8x1568, .i32⟩
  | 109 => ⟨S_, .i32⟩
  | 110 => ⟨S8x1568, .i32⟩
  | 111 => ⟨S8x1568, .i32⟩
  | 112 => ⟨S8x1568, .i32⟩
  | 113 => ⟨S8x1568, .i32⟩
  | 114 => ⟨S8x1568, .i32⟩
  | 115 => ⟨S_, .i32⟩
  | 116 => ⟨S8x1568, .i32⟩
  | 117 => ⟨S8x1568, .i32⟩
  | 118 => ⟨S_, .i32⟩
  | 119 => ⟨S8x1568, .i32⟩
  | 120 => ⟨S8x1568, .i32⟩
  | 121 => ⟨S8x1568, .i32⟩
  | 122 => ⟨S8x1568, .i32⟩
  | 123 => ⟨S8x1568, .i32⟩
  | 124 => ⟨S8x1568, .i32⟩
  | 125 => ⟨S8x1568, .i32⟩
  | 126 => ⟨S8x1568, .i32⟩
  | 127 => ⟨S_, .i32⟩
  | _ => ⟨S8x1568x384, .f32⟩

abbrev hbmTy0_1 (i : Nat) : BufTy := match i % 128 with
  | 0 => ⟨S8x1568, .i32⟩
  | 1 => ⟨S8x1568, .i32⟩
  | 2 => ⟨S8x1568, .i32⟩
  | 3 => ⟨S_, .i32⟩
  | 4 => ⟨S8x1568, .i32⟩
  | 5 => ⟨S8x1568, .i32⟩
  | 6 => ⟨S_, .i32⟩
  | 7 => ⟨S8x1568, .i32⟩
  | 8 => ⟨S8x1568, .i32⟩
  | 9 => ⟨S8x1568, .i32⟩
  | 10 => ⟨S8x1568, .i32⟩
  | 11 => ⟨S8x1568, .i32⟩
  | 12 => ⟨S_, .i32⟩
  | 13 => ⟨S8x1568, .i32⟩
  | 14 => ⟨S8x1568, .i32⟩
  | 15 => ⟨S_, .i32⟩
  | 16 => ⟨S8x1568, .i32⟩
  | 17 => ⟨S8x1568, .i32⟩
  | 18 => ⟨S8x1568, .i32⟩
  | 19 => ⟨S8x1568, .i32⟩
  | 20 => ⟨S8x1568, .i32⟩
  | 21 => ⟨S_, .i32⟩
  | 22 => ⟨S8x1568, .i32⟩
  | 23 => ⟨S8x1568, .i32⟩
  | 24 => ⟨S_, .i32⟩
  | 25 => ⟨S8x1568, .i32⟩
  | 26 => ⟨S8x1568, .i32⟩
  | 27 => ⟨S8x1568, .i32⟩
  | 28 => ⟨S8x1568, .i32⟩
  | 29 => ⟨S8x1568, .i32⟩
  | 30 => ⟨S_, .i32⟩
  | 31 => ⟨S8x1568, .i32⟩
  | 32 => ⟨S8x1568, .i32⟩
  | 33 => ⟨S_, .i32⟩
  | 34 => ⟨S8x1568, .i32⟩
  | 35 => ⟨S8x1568, .i32⟩
  | 36 => ⟨S8x1568, .i32⟩
  | 37 => ⟨S8x1568, .i32⟩
  | 38 => ⟨S8x1568, .i32⟩
  | 39 => ⟨S8x1568, .i32⟩
  | 40 => ⟨S8x1568, .i32⟩
  | 41 => ⟨S8x1568, .i32⟩
  | 42 => ⟨S_, .i32⟩
  | 43 => ⟨S8x1568, .i32⟩
  | 44 => ⟨S8x1568, .i32⟩
  | 45 => ⟨S8x1568, .i32⟩
  | 46 => ⟨S_, .i32⟩
  | 47 => ⟨S8x1568, .i32⟩
  | 48 => ⟨S8x1568, .i32⟩
  | 49 => ⟨S_, .i32⟩
  | 50 => ⟨S8x1568, .i32⟩
  | 51 => ⟨S8x1568, .i32⟩
  | 52 => ⟨S8x1568, .i32⟩
  | 53 => ⟨S8x1568, .i32⟩
  | 54 => ⟨S8x1568, .i32⟩
  | 55 => ⟨S_, .i32⟩
  | 56 => ⟨S8x1568, .i32⟩
  | 57 => ⟨S8x1568, .i32⟩
  | 58 => ⟨S_, .i32⟩
  | 59 => ⟨S8x1568, .i32⟩
  | 60 => ⟨S8x1568, .i32⟩
  | 61 => ⟨S8x1568, .i32⟩
  | 62 => ⟨S8x1568, .i32⟩
  | 63 => ⟨S8x1568, .i32⟩
  | 64 => ⟨S_, .i32⟩
  | 65 => ⟨S8x1568, .i32⟩
  | 66 => ⟨S8x1568, .i32⟩
  | 67 => ⟨S_, .i32⟩
  | 68 => ⟨S8x1568, .i32⟩
  | 69 => ⟨S8x1568, .i32⟩
  | 70 => ⟨S8x1568, .i32⟩
  | 71 => ⟨S8x1568, .i32⟩
  | 72 => ⟨S8x1568, .i32⟩
  | 73 => ⟨S_, .i32⟩
  | 74 => ⟨S8x1568, .i32⟩
  | 75 => ⟨S8x1568, .i32⟩
  | 76 => ⟨S_, .i32⟩
  | 77 => ⟨S8x1568, .i32⟩
  | 78 => ⟨S8x1568, .i32⟩
  | 79 => ⟨S8x1568, .i32⟩
  | 80 => ⟨S8x1568, .i32⟩
  | 81 => ⟨S8x1568, .i32⟩
  | 82 => ⟨S8x1568, .i32⟩
  | 83 => ⟨S8x1568, .i32⟩
  | 84 => ⟨S8x1568, .i32⟩
  | 85 => ⟨S_, .i32⟩
  | 86 => ⟨S8x1568, .i32⟩
  | 87 => ⟨S8x1568, .i32⟩
  | 88 => ⟨S8x1568, .i32⟩
  | 89 => ⟨S_, .i32⟩
  | 90 => ⟨S8x1568, .i32⟩
  | 91 => ⟨S8x1568, .i32⟩
  | 92 => ⟨S_, .i32⟩
  | 93 => ⟨S8x1568, .i32⟩
  | 94 => ⟨S8x1568, .i32⟩
  | 95 => ⟨S8x1568, .i32⟩
  | 96 => ⟨S8x1568, .i32⟩
  | 97 => ⟨S8x1568, .i32⟩
  | 98 => ⟨S_, .i32⟩
  | 99 => ⟨S8x1568, .i32⟩
  | 100 => ⟨S8x1568, .i32⟩
  | 101 => ⟨S_, .i32⟩
  | 102 => ⟨S8x1568, .i32⟩
  | 103 => ⟨S8x1568, .i32⟩
  | 104 => ⟨S8x1568, .i32⟩
  | 105 => ⟨S8x1568, .i32⟩
  | 106 => ⟨S8x1568, .i32⟩
  | 107 => ⟨S_, .i32⟩
  | 108 => ⟨S8x1568, .i32⟩
  | 109 => ⟨S8x1568, .i32⟩
  | 110 => ⟨S_, .i32⟩
  | 111 => ⟨S8x1568, .i32⟩
  | 112 => ⟨S8x1568, .i32⟩
  | 113 => ⟨S8x1568, .i32⟩
  | 114 => ⟨S8x1568, .i32⟩
  | 115 => ⟨S8x1568, .i32⟩
  | 116 => ⟨S_, .i32⟩
  | 117 => ⟨S8x1568, .i32⟩
  | 118 => ⟨S8x1568, .i32⟩
  | 119 => ⟨S_, .i32⟩
  | 120 => ⟨S8x1568, .i32⟩
  | 121 => ⟨S8x1568, .i32⟩
  | 122 => ⟨S8x1568, .i32⟩
  | 123 => ⟨S8x1568, .i32⟩
  | 124 => ⟨S8x1568, .i32⟩
  | 125 => ⟨S8x1568, .i32⟩
  | 126 => ⟨S8x1568, .i32⟩
  | 127 => ⟨S8x1568, .i32⟩
  | _ => ⟨S8x1568x384, .f32⟩

abbrev hbmTy0_2 (i : Nat) : BufTy := match i % 128 with
  | 0 => ⟨S_, .i32⟩
  | 1 => ⟨S8x1568, .i32⟩
  | 2 => ⟨S8x1568, .i32⟩
  | 3 => ⟨S8x1568, .i32⟩
  | 4 => ⟨S_, .i32⟩
  | 5 => ⟨S8x1568, .i32⟩
  | 6 => ⟨S8x1568, .i32⟩
  | 7 => ⟨S_, .i32⟩
  | 8 => ⟨S8x1568, .i32⟩
  | 9 => ⟨S8x1568, .i32⟩
  | 10 => ⟨S8x1568, .f32⟩
  | 11 => ⟨S_, .f32⟩
  | 12 => ⟨S8x1568, .f32⟩
  | 13 => ⟨S8x1568, .f32⟩
  | 14 => ⟨S1x1, .f32⟩
  | 15 => ⟨S8x1568, .f32⟩
  | 16 => ⟨S8x1568, .f32⟩
  | 17 => ⟨S8x1568, .f32⟩
  | 18 => ⟨S8x1568, .f32⟩
  | 19 => ⟨S8x1568, .f32⟩
  | 20 => ⟨S8x1568, .f32⟩
  | 21 => ⟨S_, .f32⟩
  | 22 => ⟨S8x1568, .f32⟩
  | 23 => ⟨S8x1568, .f32⟩
  | 24 => ⟨S1x1, .f32⟩
  | 25 => ⟨S8x1x1568, .f32⟩
  | 26 => ⟨S8x196x384, .f32⟩
  | _ => ⟨S8x1568x384, .f32⟩

abbrev hbmTy (i : Nat) : BufTy := match i / 128 with
  | 0 => hbmTy0_0 i
  | 1 => hbmTy0_1 i
  | 2 => hbmTy0_2 i
  | _ => ⟨S8x1568x384, .f32⟩

abbrev bufTy : (tb : Table) → Fin (tcTables nBuf tb) → BufTy
  | .hbm, ⟨i, _⟩ => hbmTy i
  | .local _ .vmem, ⟨0, _⟩ => ⟨S1x1568x384, .f32⟩
  | .local _ .vmem, ⟨1, _⟩ => ⟨S1x1568x384, .f32⟩
  | .local _ .vmem, ⟨2, _⟩ => ⟨S1x384, .f32⟩
  | .local _ .vmem, ⟨3, _⟩ => ⟨S1x1, .f32⟩
  | .local _ .vmem, ⟨4, _⟩ => ⟨S1x1x1568, .f32⟩
  | .local _ .vmem, ⟨5, _⟩ => ⟨S1x1x1568, .f32⟩
  | .local _ .vmem, ⟨6, _⟩ => ⟨S1x196x384, .f32⟩
  | .local _ .vmem, ⟨7, _⟩ => ⟨S1x196x384, .f32⟩
  | .local _ .vmem, ⟨8, _⟩ => ⟨S1568x1568, .f32⟩
  | .local _ .vmem, ⟨9, _⟩ => ⟨S1568x1, .f32⟩
  | .local _ .vmem, ⟨10, _⟩ => ⟨S1568x1, .f32⟩
  | .local _ .vmem, ⟨11, _⟩ => ⟨S7x224, .f32⟩
  | _, _ => ⟨S8x1568x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_c : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_c_1 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_call0_v0 : Ref sig .tc := ⟨.hbm, 37, rfl⟩
abbrev main_call0_call0_c : Ref sig .tc := ⟨.hbm, 38, rfl⟩
abbrev main_call0_call0_v1 : Ref sig .tc := ⟨.hbm, 39, rfl⟩
abbrev main_call0_call0_v2 : Ref sig .tc := ⟨.hbm, 40, rfl⟩
abbrev main_call0_call0_v3 : Ref sig .tc := ⟨.hbm, 41, rfl⟩
abbrev main_call0_call0_v4 : Ref sig .tc := ⟨.hbm, 42, rfl⟩
abbrev main_call0_call0_v5 : Ref sig .tc := ⟨.hbm, 43, rfl⟩
abbrev main_call0_call0_v6 : Ref sig .tc := ⟨.hbm, 44, rfl⟩
abbrev main_call0_call0_c_0 : Ref sig .tc := ⟨.hbm, 45, rfl⟩
abbrev main_call0_call0_v7 : Ref sig .tc := ⟨.hbm, 46, rfl⟩
abbrev main_call0_call0_v8 : Ref sig .tc := ⟨.hbm, 47, rfl⟩
abbrev main_call0_call0_c_1 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_call0_v12 : Ref sig .tc := ⟨.hbm, 52, rfl⟩
abbrev main_call0_call0_v13 : Ref sig .tc := ⟨.hbm, 53, rfl⟩
abbrev main_call0_call0_c_2 : Ref sig .tc := ⟨.hbm, 54, rfl⟩
abbrev main_call0_call0_v14 : Ref sig .tc := ⟨.hbm, 55, rfl⟩
abbrev main_call0_call0_v15 : Ref sig .tc := ⟨.hbm, 56, rfl⟩
abbrev main_call0_call0_c_3 : Ref sig .tc := ⟨.hbm, 57, rfl⟩
abbrev main_call0_call0_v16 : Ref sig .tc := ⟨.hbm, 58, rfl⟩
abbrev main_call0_call0_v17 : Ref sig .tc := ⟨.hbm, 59, rfl⟩
abbrev main_call0_call0_v18 : Ref sig .tc := ⟨.hbm, 60, rfl⟩
abbrev main_call0_call0_v19 : Ref sig .tc := ⟨.hbm, 61, rfl⟩
abbrev main_call0_call0_v20 : Ref sig .tc := ⟨.hbm, 62, rfl⟩
abbrev main_call0_call0_c_4 : Ref sig .tc := ⟨.hbm, 63, rfl⟩
abbrev main_call0_call0_v21 : Ref sig .tc := ⟨.hbm, 64, rfl⟩
abbrev main_call0_call0_v22 : Ref sig .tc := ⟨.hbm, 65, rfl⟩
abbrev main_call0_call0_c_5 : Ref sig .tc := ⟨.hbm, 66, rfl⟩
abbrev main_call0_call0_v23 : Ref sig .tc := ⟨.hbm, 67, rfl⟩
abbrev main_call0_call0_v24 : Ref sig .tc := ⟨.hbm, 68, rfl⟩
abbrev main_call0_call0_v25 : Ref sig .tc := ⟨.hbm, 69, rfl⟩
abbrev main_call0_call0_v26 : Ref sig .tc := ⟨.hbm, 70, rfl⟩
abbrev main_call0_call0_v27 : Ref sig .tc := ⟨.hbm, 71, rfl⟩
abbrev main_call0_call0_c_6 : Ref sig .tc := ⟨.hbm, 72, rfl⟩
abbrev main_call0_call0_v28 : Ref sig .tc := ⟨.hbm, 73, rfl⟩
abbrev main_call0_call0_v29 : Ref sig .tc := ⟨.hbm, 74, rfl⟩
abbrev main_call0_call0_c_7 : Ref sig .tc := ⟨.hbm, 75, rfl⟩
abbrev main_call0_call0_v30 : Ref sig .tc := ⟨.hbm, 76, rfl⟩
abbrev main_call0_call0_v31 : Ref sig .tc := ⟨.hbm, 77, rfl⟩
abbrev main_call0_call0_v32 : Ref sig .tc := ⟨.hbm, 78, rfl⟩
abbrev main_call0_call0_v33 : Ref sig .tc := ⟨.hbm, 79, rfl⟩
abbrev main_call0_call0_v34 : Ref sig .tc := ⟨.hbm, 80, rfl⟩
abbrev main_call0_call0_v35 : Ref sig .tc := ⟨.hbm, 81, rfl⟩
abbrev main_call0_call0_v36 : Ref sig .tc := ⟨.hbm, 82, rfl⟩
abbrev main_call0_call0_v37 : Ref sig .tc := ⟨.hbm, 83, rfl⟩
abbrev main_call0_call0_c_8 : Ref sig .tc := ⟨.hbm, 84, rfl⟩
abbrev main_call0_call0_v38 : Ref sig .tc := ⟨.hbm, 85, rfl⟩
abbrev main_call0_call0_v39 : Ref sig .tc := ⟨.hbm, 86, rfl⟩
abbrev main_call0_call0_v40 : Ref sig .tc := ⟨.hbm, 87, rfl⟩
abbrev main_call0_call0_c_9 : Ref sig .tc := ⟨.hbm, 88, rfl⟩
abbrev main_call0_call0_v41 : Ref sig .tc := ⟨.hbm, 89, rfl⟩
abbrev main_call0_call0_v42 : Ref sig .tc := ⟨.hbm, 90, rfl⟩
abbrev main_call0_call0_c_10 : Ref sig .tc := ⟨.hbm, 91, rfl⟩
abbrev main_call0_call0_v43 : Ref sig .tc := ⟨.hbm, 92, rfl⟩
abbrev main_call0_call0_v44 : Ref sig .tc := ⟨.hbm, 93, rfl⟩
abbrev main_call0_call0_v45 : Ref sig .tc := ⟨.hbm, 94, rfl⟩
abbrev main_call0_call0_v46 : Ref sig .tc := ⟨.hbm, 95, rfl⟩
abbrev main_call0_call0_v47 : Ref sig .tc := ⟨.hbm, 96, rfl⟩
abbrev main_call0_call0_c_11 : Ref sig .tc := ⟨.hbm, 97, rfl⟩
abbrev main_call0_call0_v48 : Ref sig .tc := ⟨.hbm, 98, rfl⟩
abbrev main_call0_call0_v49 : Ref sig .tc := ⟨.hbm, 99, rfl⟩
abbrev main_call0_call0_c_12 : Ref sig .tc := ⟨.hbm, 100, rfl⟩
abbrev main_call0_call0_v50 : Ref sig .tc := ⟨.hbm, 101, rfl⟩
abbrev main_call0_call0_v51 : Ref sig .tc := ⟨.hbm, 102, rfl⟩
abbrev main_call0_call0_v52 : Ref sig .tc := ⟨.hbm, 103, rfl⟩
abbrev main_call0_call0_v53 : Ref sig .tc := ⟨.hbm, 104, rfl⟩
abbrev main_call0_call0_v54 : Ref sig .tc := ⟨.hbm, 105, rfl⟩
abbrev main_call0_call0_c_13 : Ref sig .tc := ⟨.hbm, 106, rfl⟩
abbrev main_call0_call0_v55 : Ref sig .tc := ⟨.hbm, 107, rfl⟩
abbrev main_call0_call0_v56 : Ref sig .tc := ⟨.hbm, 108, rfl⟩
abbrev main_call0_call0_c_14 : Ref sig .tc := ⟨.hbm, 109, rfl⟩
abbrev main_call0_call0_v57 : Ref sig .tc := ⟨.hbm, 110, rfl⟩
abbrev main_call0_call0_v58 : Ref sig .tc := ⟨.hbm, 111, rfl⟩
abbrev main_call0_call0_v59 : Ref sig .tc := ⟨.hbm, 112, rfl⟩
abbrev main_call0_call0_v60 : Ref sig .tc := ⟨.hbm, 113, rfl⟩
abbrev main_call0_call0_v61 : Ref sig .tc := ⟨.hbm, 114, rfl⟩
abbrev main_call0_call0_c_15 : Ref sig .tc := ⟨.hbm, 115, rfl⟩
abbrev main_call0_call0_v62 : Ref sig .tc := ⟨.hbm, 116, rfl⟩
abbrev main_call0_call0_v63 : Ref sig .tc := ⟨.hbm, 117, rfl⟩
abbrev main_call0_call0_c_16 : Ref sig .tc := ⟨.hbm, 118, rfl⟩
abbrev main_call0_call0_v64 : Ref sig .tc := ⟨.hbm, 119, rfl⟩
abbrev main_call0_call0_v65 : Ref sig .tc := ⟨.hbm, 120, rfl⟩
abbrev main_call0_call0_v66 : Ref sig .tc := ⟨.hbm, 121, rfl⟩
abbrev main_call0_call0_v67 : Ref sig .tc := ⟨.hbm, 122, rfl⟩
abbrev main_call0_call0_v68 : Ref sig .tc := ⟨.hbm, 123, rfl⟩
abbrev main_call0_call0_v69 : Ref sig .tc := ⟨.hbm, 124, rfl⟩
abbrev main_call0_call0_v70 : Ref sig .tc := ⟨.hbm, 125, rfl⟩
abbrev main_call0_call0_v71 : Ref sig .tc := ⟨.hbm, 126, rfl⟩
abbrev main_call0_call0_c_17 : Ref sig .tc := ⟨.hbm, 127, rfl⟩
abbrev main_call0_call0_v72 : Ref sig .tc := ⟨.hbm, 128, rfl⟩
abbrev main_call0_call0_v73 : Ref sig .tc := ⟨.hbm, 129, rfl⟩
abbrev main_call0_call0_v74 : Ref sig .tc := ⟨.hbm, 130, rfl⟩
abbrev main_call0_call0_c_18 : Ref sig .tc := ⟨.hbm, 131, rfl⟩
abbrev main_call0_call0_v75 : Ref sig .tc := ⟨.hbm, 132, rfl⟩
abbrev main_call0_call0_v76 : Ref sig .tc := ⟨.hbm, 133, rfl⟩
abbrev main_call0_call0_c_19 : Ref sig .tc := ⟨.hbm, 134, rfl⟩
abbrev main_call0_call0_v77 : Ref sig .tc := ⟨.hbm, 135, rfl⟩
abbrev main_call0_call0_v78 : Ref sig .tc := ⟨.hbm, 136, rfl⟩
abbrev main_call0_call0_v79 : Ref sig .tc := ⟨.hbm, 137, rfl⟩
abbrev main_call0_call0_v80 : Ref sig .tc := ⟨.hbm, 138, rfl⟩
abbrev main_call0_call0_v81 : Ref sig .tc := ⟨.hbm, 139, rfl⟩
abbrev main_call0_call0_c_20 : Ref sig .tc := ⟨.hbm, 140, rfl⟩
abbrev main_call0_call0_v82 : Ref sig .tc := ⟨.hbm, 141, rfl⟩
abbrev main_call0_call0_v83 : Ref sig .tc := ⟨.hbm, 142, rfl⟩
abbrev main_call0_call0_c_21 : Ref sig .tc := ⟨.hbm, 143, rfl⟩
abbrev main_call0_call0_v84 : Ref sig .tc := ⟨.hbm, 144, rfl⟩
abbrev main_call0_call0_v85 : Ref sig .tc := ⟨.hbm, 145, rfl⟩
abbrev main_call0_call0_v86 : Ref sig .tc := ⟨.hbm, 146, rfl⟩
abbrev main_call0_call0_v87 : Ref sig .tc := ⟨.hbm, 147, rfl⟩
abbrev main_call0_call0_v88 : Ref sig .tc := ⟨.hbm, 148, rfl⟩
abbrev main_call0_call0_c_22 : Ref sig .tc := ⟨.hbm, 149, rfl⟩
abbrev main_call0_call0_v89 : Ref sig .tc := ⟨.hbm, 150, rfl⟩
abbrev main_call0_call0_v90 : Ref sig .tc := ⟨.hbm, 151, rfl⟩
abbrev main_call0_call0_c_23 : Ref sig .tc := ⟨.hbm, 152, rfl⟩
abbrev main_call0_call0_v91 : Ref sig .tc := ⟨.hbm, 153, rfl⟩
abbrev main_call0_call0_v92 : Ref sig .tc := ⟨.hbm, 154, rfl⟩
abbrev main_call0_call0_v93 : Ref sig .tc := ⟨.hbm, 155, rfl⟩
abbrev main_call0_call0_v94 : Ref sig .tc := ⟨.hbm, 156, rfl⟩
abbrev main_call0_call0_v95 : Ref sig .tc := ⟨.hbm, 157, rfl⟩
abbrev main_call0_call0_c_24 : Ref sig .tc := ⟨.hbm, 158, rfl⟩
abbrev main_call0_call0_v96 : Ref sig .tc := ⟨.hbm, 159, rfl⟩
abbrev main_call0_call0_v97 : Ref sig .tc := ⟨.hbm, 160, rfl⟩
abbrev main_call0_call0_c_25 : Ref sig .tc := ⟨.hbm, 161, rfl⟩
abbrev main_call0_call0_v98 : Ref sig .tc := ⟨.hbm, 162, rfl⟩
abbrev main_call0_call0_v99 : Ref sig .tc := ⟨.hbm, 163, rfl⟩
abbrev main_call0_call0_v100 : Ref sig .tc := ⟨.hbm, 164, rfl⟩
abbrev main_call0_call0_v101 : Ref sig .tc := ⟨.hbm, 165, rfl⟩
abbrev main_call0_call0_v102 : Ref sig .tc := ⟨.hbm, 166, rfl⟩
abbrev main_call0_call0_v103 : Ref sig .tc := ⟨.hbm, 167, rfl⟩
abbrev main_call0_call0_v104 : Ref sig .tc := ⟨.hbm, 168, rfl⟩
abbrev main_call0_call0_v105 : Ref sig .tc := ⟨.hbm, 169, rfl⟩
abbrev main_call0_call0_c_26 : Ref sig .tc := ⟨.hbm, 170, rfl⟩
abbrev main_call0_call0_v106 : Ref sig .tc := ⟨.hbm, 171, rfl⟩
abbrev main_call0_call0_v107 : Ref sig .tc := ⟨.hbm, 172, rfl⟩
abbrev main_call0_call0_v108 : Ref sig .tc := ⟨.hbm, 173, rfl⟩
abbrev main_call0_call0_c_27 : Ref sig .tc := ⟨.hbm, 174, rfl⟩
abbrev main_call0_call0_v109 : Ref sig .tc := ⟨.hbm, 175, rfl⟩
abbrev main_call0_call0_v110 : Ref sig .tc := ⟨.hbm, 176, rfl⟩
abbrev main_call0_call0_c_28 : Ref sig .tc := ⟨.hbm, 177, rfl⟩
abbrev main_call0_call0_v111 : Ref sig .tc := ⟨.hbm, 178, rfl⟩
abbrev main_call0_call0_v112 : Ref sig .tc := ⟨.hbm, 179, rfl⟩
abbrev main_call0_call0_v113 : Ref sig .tc := ⟨.hbm, 180, rfl⟩
abbrev main_call0_call0_v114 : Ref sig .tc := ⟨.hbm, 181, rfl⟩
abbrev main_call0_call0_v115 : Ref sig .tc := ⟨.hbm, 182, rfl⟩
abbrev main_call0_call0_c_29 : Ref sig .tc := ⟨.hbm, 183, rfl⟩
abbrev main_call0_call0_v116 : Ref sig .tc := ⟨.hbm, 184, rfl⟩
abbrev main_call0_call0_v117 : Ref sig .tc := ⟨.hbm, 185, rfl⟩
abbrev main_call0_call0_c_30 : Ref sig .tc := ⟨.hbm, 186, rfl⟩
abbrev main_call0_call0_v118 : Ref sig .tc := ⟨.hbm, 187, rfl⟩
abbrev main_call0_call0_v119 : Ref sig .tc := ⟨.hbm, 188, rfl⟩
abbrev main_call0_call0_v120 : Ref sig .tc := ⟨.hbm, 189, rfl⟩
abbrev main_call0_call0_v121 : Ref sig .tc := ⟨.hbm, 190, rfl⟩
abbrev main_call0_call0_v122 : Ref sig .tc := ⟨.hbm, 191, rfl⟩
abbrev main_call0_call0_c_31 : Ref sig .tc := ⟨.hbm, 192, rfl⟩
abbrev main_call0_call0_v123 : Ref sig .tc := ⟨.hbm, 193, rfl⟩
abbrev main_call0_call0_v124 : Ref sig .tc := ⟨.hbm, 194, rfl⟩
abbrev main_call0_call0_c_32 : Ref sig .tc := ⟨.hbm, 195, rfl⟩
abbrev main_call0_call0_v125 : Ref sig .tc := ⟨.hbm, 196, rfl⟩
abbrev main_call0_call0_v126 : Ref sig .tc := ⟨.hbm, 197, rfl⟩
abbrev main_call0_call0_v127 : Ref sig .tc := ⟨.hbm, 198, rfl⟩
abbrev main_call0_call0_v128 : Ref sig .tc := ⟨.hbm, 199, rfl⟩
abbrev main_call0_call0_v129 : Ref sig .tc := ⟨.hbm, 200, rfl⟩
abbrev main_call0_call0_c_33 : Ref sig .tc := ⟨.hbm, 201, rfl⟩
abbrev main_call0_call0_v130 : Ref sig .tc := ⟨.hbm, 202, rfl⟩
abbrev main_call0_call0_v131 : Ref sig .tc := ⟨.hbm, 203, rfl⟩
abbrev main_call0_call0_c_34 : Ref sig .tc := ⟨.hbm, 204, rfl⟩
abbrev main_call0_call0_v132 : Ref sig .tc := ⟨.hbm, 205, rfl⟩
abbrev main_call0_call0_v133 : Ref sig .tc := ⟨.hbm, 206, rfl⟩
abbrev main_call0_call0_v134 : Ref sig .tc := ⟨.hbm, 207, rfl⟩
abbrev main_call0_call0_v135 : Ref sig .tc := ⟨.hbm, 208, rfl⟩
abbrev main_call0_call0_v136 : Ref sig .tc := ⟨.hbm, 209, rfl⟩
abbrev main_call0_call0_v137 : Ref sig .tc := ⟨.hbm, 210, rfl⟩
abbrev main_call0_call0_v138 : Ref sig .tc := ⟨.hbm, 211, rfl⟩
abbrev main_call0_call0_v139 : Ref sig .tc := ⟨.hbm, 212, rfl⟩
abbrev main_call0_call0_c_35 : Ref sig .tc := ⟨.hbm, 213, rfl⟩
abbrev main_call0_call0_v140 : Ref sig .tc := ⟨.hbm, 214, rfl⟩
abbrev main_call0_call0_v141 : Ref sig .tc := ⟨.hbm, 215, rfl⟩
abbrev main_call0_call0_v142 : Ref sig .tc := ⟨.hbm, 216, rfl⟩
abbrev main_call0_call0_c_36 : Ref sig .tc := ⟨.hbm, 217, rfl⟩
abbrev main_call0_call0_v143 : Ref sig .tc := ⟨.hbm, 218, rfl⟩
abbrev main_call0_call0_v144 : Ref sig .tc := ⟨.hbm, 219, rfl⟩
abbrev main_call0_call0_c_37 : Ref sig .tc := ⟨.hbm, 220, rfl⟩
abbrev main_call0_call0_v145 : Ref sig .tc := ⟨.hbm, 221, rfl⟩
abbrev main_call0_call0_v146 : Ref sig .tc := ⟨.hbm, 222, rfl⟩
abbrev main_call0_call0_v147 : Ref sig .tc := ⟨.hbm, 223, rfl⟩
abbrev main_call0_call0_v148 : Ref sig .tc := ⟨.hbm, 224, rfl⟩
abbrev main_call0_call0_v149 : Ref sig .tc := ⟨.hbm, 225, rfl⟩
abbrev main_call0_call0_c_38 : Ref sig .tc := ⟨.hbm, 226, rfl⟩
abbrev main_call0_call0_v150 : Ref sig .tc := ⟨.hbm, 227, rfl⟩
abbrev main_call0_call0_v151 : Ref sig .tc := ⟨.hbm, 228, rfl⟩
abbrev main_call0_call0_c_39 : Ref sig .tc := ⟨.hbm, 229, rfl⟩
abbrev main_call0_call0_v152 : Ref sig .tc := ⟨.hbm, 230, rfl⟩
abbrev main_call0_call0_v153 : Ref sig .tc := ⟨.hbm, 231, rfl⟩
abbrev main_call0_call0_v154 : Ref sig .tc := ⟨.hbm, 232, rfl⟩
abbrev main_call0_call0_v155 : Ref sig .tc := ⟨.hbm, 233, rfl⟩
abbrev main_call0_call0_v156 : Ref sig .tc := ⟨.hbm, 234, rfl⟩
abbrev main_call0_call0_c_40 : Ref sig .tc := ⟨.hbm, 235, rfl⟩
abbrev main_call0_call0_v157 : Ref sig .tc := ⟨.hbm, 236, rfl⟩
abbrev main_call0_call0_v158 : Ref sig .tc := ⟨.hbm, 237, rfl⟩
abbrev main_call0_call0_c_41 : Ref sig .tc := ⟨.hbm, 238, rfl⟩
abbrev main_call0_call0_v159 : Ref sig .tc := ⟨.hbm, 239, rfl⟩
abbrev main_call0_call0_v160 : Ref sig .tc := ⟨.hbm, 240, rfl⟩
abbrev main_call0_call0_v161 : Ref sig .tc := ⟨.hbm, 241, rfl⟩
abbrev main_call0_call0_v162 : Ref sig .tc := ⟨.hbm, 242, rfl⟩
abbrev main_call0_call0_v163 : Ref sig .tc := ⟨.hbm, 243, rfl⟩
abbrev main_call0_call0_c_42 : Ref sig .tc := ⟨.hbm, 244, rfl⟩
abbrev main_call0_call0_v164 : Ref sig .tc := ⟨.hbm, 245, rfl⟩
abbrev main_call0_call0_v165 : Ref sig .tc := ⟨.hbm, 246, rfl⟩
abbrev main_call0_call0_c_43 : Ref sig .tc := ⟨.hbm, 247, rfl⟩
abbrev main_call0_call0_v166 : Ref sig .tc := ⟨.hbm, 248, rfl⟩
abbrev main_call0_call0_v167 : Ref sig .tc := ⟨.hbm, 249, rfl⟩
abbrev main_call0_call0_v168 : Ref sig .tc := ⟨.hbm, 250, rfl⟩
abbrev main_call0_call0_v169 : Ref sig .tc := ⟨.hbm, 251, rfl⟩
abbrev main_call0_call0_v170 : Ref sig .tc := ⟨.hbm, 252, rfl⟩
abbrev main_call0_v19_0 : Ref sig .tc := ⟨.hbm, 253, rfl⟩
abbrev main_call0_call0_v172 : Ref sig .tc := ⟨.hbm, 254, rfl⟩
abbrev main_call0_call0_v173 : Ref sig .tc := ⟨.hbm, 255, rfl⟩
abbrev main_call0_call0_c_44 : Ref sig .tc := ⟨.hbm, 256, rfl⟩
abbrev main_call0_call0_v174 : Ref sig .tc := ⟨.hbm, 257, rfl⟩
abbrev main_call0_v19_1 : Ref sig .tc := ⟨.hbm, 258, rfl⟩
abbrev main_call0_v20 : Ref sig .tc := ⟨.hbm, 259, rfl⟩
abbrev main_call0_c_2 : Ref sig .tc := ⟨.hbm, 260, rfl⟩
abbrev main_call0_v21 : Ref sig .tc := ⟨.hbm, 261, rfl⟩
abbrev main_call0_v22 : Ref sig .tc := ⟨.hbm, 262, rfl⟩
abbrev main_call0_c_3 : Ref sig .tc := ⟨.hbm, 263, rfl⟩
abbrev main_call0_v23 : Ref sig .tc := ⟨.hbm, 264, rfl⟩
abbrev main_call0_v24 : Ref sig .tc := ⟨.hbm, 265, rfl⟩
abbrev main_call0_v25 : Ref sig .tc := ⟨.hbm, 266, rfl⟩
abbrev main_call0_cst : Ref sig .tc := ⟨.hbm, 267, rfl⟩
abbrev main_call0_v26 : Ref sig .tc := ⟨.hbm, 268, rfl⟩
abbrev main_call0_v27 : Ref sig .tc := ⟨.hbm, 269, rfl⟩
abbrev main_call0_v28 : Ref sig .tc := ⟨.hbm, 270, rfl⟩
abbrev main_call0_v29 : Ref sig .tc := ⟨.hbm, 271, rfl⟩
abbrev main_call0_v30 : Ref sig .tc := ⟨.hbm, 272, rfl⟩
abbrev main_call0_v31 : Ref sig .tc := ⟨.hbm, 273, rfl⟩
abbrev main_call0_v32 : Ref sig .tc := ⟨.hbm, 274, rfl⟩
abbrev main_call0_v33 : Ref sig .tc := ⟨.hbm, 275, rfl⟩
abbrev main_v7 : Ref sig .tc := ⟨.hbm, 276, rfl⟩
abbrev main_cst_3 : Ref sig .tc := ⟨.hbm, 277, rfl⟩
abbrev main_v8 : Ref sig .tc := ⟨.hbm, 278, rfl⟩
abbrev main_v9 : Ref sig .tc := ⟨.hbm, 279, rfl⟩
abbrev main_v10 : Ref sig .tc := ⟨.hbm, 280, rfl⟩
abbrev main_v11 : Ref sig .tc := ⟨.hbm, 281, rfl⟩
abbrev main_v12 : Ref sig .tc := ⟨.hbm, 282, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c7_i32 : BitVec 32 := 7#32
  let v14 : BitVec 32 := Scalar.addi c0_i32 c7_i32
  let c1_i32 : BitVec 32 := 1#32
  ⟨c0_i32, v14, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c224_i32_54 : BitVec 32 := 224#32
  let v92 : BitVec 32 := Scalar.muli arg10 c224_i32_54
  let v93 : Index := Scalar.indexCast v92
  let c0_55 : Index := 0#32
  ![v93.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c224_i32_54 : BitVec 32 := 224#32
  let v92 : BitVec 32 := Scalar.muli arg10 c224_i32_54
  let v95 : Index := Scalar.indexCast v92
  let c0_56 : Index := 0#32
  ![v95.toNat, 0]
@[reducible] def k0_t2_loop : Scf.Loop 32 :=
  let c0_i32_61 : BitVec 32 := 0#32
  let c9_i32 : BitVec 32 := 9#32
  let v111 : BitVec 32 := Scalar.addi c0_i32_61 c9_i32
  let c1_i32_62 : BitVec 32 := 1#32
  ⟨c0_i32_61, v111, c1_i32_62⟩
@[reducible] def k0_t3_loop : Scf.Loop 32 :=
  let c0_i32_19 : BitVec 32 := 0#32
  let c7_i32_20 : BitVec 32 := 7#32
  let v28 : BitVec 32 := Scalar.addi c0_i32_19 c7_i32_20
  let c1_i32_21 : BitVec 32 := 1#32
  ⟨c0_i32_19, v28, c1_i32_21⟩
def k0_off3 (k0_t3 : Fin k0_t3_loop.trips) : Fin 2 → Nat :=
  let c0_i32_19 : BitVec 32 := 0#32
  let c1_i32_21 : BitVec 32 := 1#32
  let arg10 : BitVec 32 := Scf.iv c0_i32_19 c1_i32_21 k0_t3
  let c224_i32_54 : BitVec 32 := 224#32
  let v92 : BitVec 32 := Scalar.muli arg10 c224_i32_54
  let v93 : Index := Scalar.indexCast v92
  let c0_55 : Index := 0#32
  ![v93.toNat, 0]
def k0_off4 (k0_t3 : Fin k0_t3_loop.trips) : Fin 2 → Nat :=
  let c0_i32_19 : BitVec 32 := 0#32
  let c1_i32_21 : BitVec 32 := 1#32
  let arg10 : BitVec 32 := Scf.iv c0_i32_19 c1_i32_21 k0_t3
  let c224_i32_54 : BitVec 32 := 224#32
  let v92 : BitVec 32 := Scalar.muli arg10 c224_i32_54
  let v95 : Index := Scalar.indexCast v92
  let c0_56 : Index := 0#32
  ![v95.toNat, 0]
def k0_off5 (k0_t3 : Fin k0_t3_loop.trips) : Fin 2 → Nat :=
  let c0_i32_19 : BitVec 32 := 0#32
  let c1_i32_21 : BitVec 32 := 1#32
  let arg10 : BitVec 32 := Scf.iv c0_i32_19 c1_i32_21 k0_t3
  let v119 : Index := Scalar.indexCast arg10
  let c0_62 : Index := 0#32
  ![v119.toNat, 0]
@[reducible] def k0_t4_loop : Scf.Loop 32 :=
  let c0_i32_25 : BitVec 32 := 0#32
  let c196_i32_26 : BitVec 32 := 196#32
  let v37 : BitVec 32 := Scalar.addi c0_i32_25 c196_i32_26
  let c1_i32_27 : BitVec 32 := 1#32
  ⟨c0_i32_25, v37, c1_i32_27⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1568x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1568 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x196x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1568x384 : Shape := ⟨3, ![8, 1568, 384]⟩
abbrev S1x384 : Shape := ⟨2, ![1, 384]⟩
abbrev S1 : Shape := ⟨1, ![1]⟩
abbrev S8x1568x1 : Shape := ⟨3, ![8, 1568, 1]⟩
abbrev S1x1x1 : Shape := ⟨3, ![1, 1, 1]⟩
abbrev S_ : Shape := ⟨0, ![]⟩
abbrev S8x1568 : Shape := ⟨2, ![8, 1568]⟩
abbrev S8x1x1568 : Shape := ⟨3, ![8, 1, 1568]⟩
abbrev S8x1568x1568 : Shape := ⟨3, ![8, 1568, 1568]⟩
abbrev S8x1568x9 : Shape := ⟨3, ![8, 1568, 9]⟩
abbrev S2 : Shape := ⟨1, ![2]⟩
abbrev S1x1 : Shape := ⟨2, ![1, 1]⟩
abbrev S8x2458624 : Shape := ⟨2, ![8, 2458624]⟩
abbrev S8 : Shape := ⟨1, ![8]⟩
abbrev S8x1x1 : Shape := ⟨3, ![8, 1, 1]⟩
abbrev S8x196 : Shape := ⟨2, ![8, 196]⟩
abbrev S8x196x1 : Shape := ⟨3, ![8, 196, 1]⟩
abbrev S8x196x1568 : Shape := ⟨3, ![8, 196, 1568]⟩
abbrev S1568 : Shape := ⟨1, ![1568]⟩
abbrev S196 : Shape := ⟨1, ![196]⟩
abbrev S1x196 : Shape := ⟨2, ![1, 196]⟩
abbrev S1568x1 : Shape := ⟨2, ![1568, 1]⟩
abbrev S1568x2 : Shape := ⟨2, ![1568, 2]⟩
abbrev S8x1 : Shape := ⟨2, ![8, 1]⟩
abbrev S12544 : Shape := ⟨1, ![12544]⟩
abbrev S12544x1 : Shape := ⟨2, ![12544, 1]⟩
abbrev S12544x384 : Shape := ⟨2, ![12544, 384]⟩
abbrev S1568x384 : Shape := ⟨2, ![1568, 384]⟩
abbrev S8x196x384 : Shape := ⟨3, ![8, 196, 384]⟩

abbrev nBuf : Space → Nat
  | .hbm => 443
  | .vmem => 0
  | .smem => 0
  | _ => 0

abbrev hbmTy0_0 (i : Nat) : BufTy := match i % 128 with
  | 0 => ⟨S8x1568x384, .f32⟩
  | 1 => ⟨S1x384, .f32⟩
  | 2 => ⟨S1, .f32⟩
  | 3 => ⟨S8x1568x1, .f32⟩
  | 4 => ⟨S1x1x1, .f32⟩
  | 5 => ⟨S8x1568x1, .f32⟩
  | 6 => ⟨S8x1568x1, .f32⟩
  | 7 => ⟨S8x1568x1, .f32⟩
  | 8 => ⟨S8x1568x384, .f32⟩
  | 9 => ⟨S_, .f32⟩
  | 10 => ⟨S8x1568, .f32⟩
  | 11 => ⟨S8x1568x1, .f32⟩
  | 12 => ⟨S8x1x1568, .f32⟩
  | 13 => ⟨S8x1568x1568, .f32⟩
  | 14 => ⟨S8x1568x1568, .f32⟩
  | 15 => ⟨S8x1568x1568, .f32⟩
  | 16 => ⟨S8x1568x1568, .f32⟩
  | 17 => ⟨S_, .f32⟩
  | 18 => ⟨S8x1568x1568, .f32⟩
  | 19 => ⟨S8x1568x1568, .f32⟩
  | 20 => ⟨S8x1568x1568, .f32⟩
  | 21 => ⟨S_, .f32⟩
  | 22 => ⟨S8x1568x1568, .f32⟩
  | 23 => ⟨S8x1568x1568, .f32⟩
  | 24 => ⟨S8x1568x1568, .f32⟩
  | 25 => ⟨S_, .f32⟩
  | 26 => ⟨S8x1568x1568, .f32⟩
  | 27 => ⟨S8x1568x1568, .f32⟩
  | 28 => ⟨S8x1568x1568, .f32⟩
  | 29 => ⟨S8x1568x9, .f32⟩
  | 30 => ⟨S8x1568x9, .i32⟩
  | 31 => ⟨S8x1568x9, .f32⟩
  | 32 => ⟨S8x1568x9, .f32⟩
  | 33 => ⟨S_, .f32⟩
  | 34 => ⟨S8x1568, .f32⟩
  | 35 => ⟨S_, .f32⟩
  | 36 => ⟨S8x1568, .f32⟩
  | 37 => ⟨S8x1568, .f32⟩
  | 38 => ⟨S8x1568, .f32⟩
  | 39 => ⟨S8x1568, .f32⟩
  | 40 => ⟨S_, .i32⟩
  | 41 => ⟨S_, .i32⟩
  | 42 => ⟨S_, .i32⟩
  | 43 => ⟨S_, .i32⟩
  | 44 => ⟨S1, .i32⟩
  | 45 => ⟨S_, .i32⟩
  | 46 => ⟨S_, .i32⟩
  | 47 => ⟨S_, .i32⟩
  | 48 => ⟨S1, .i32⟩
  | 49 => ⟨S2, .i32⟩
  | 50 => ⟨S_, .f32⟩
  | 51 => ⟨S_, .f32⟩
  | 52 => ⟨S_, .f32⟩
  | 53 => ⟨S_, .f32⟩
  | 54 => ⟨S1x1, .f32⟩
  | 55 => ⟨S1x1, .f32⟩
  | 56 => ⟨S1, .i32⟩
  | 57 => ⟨S_, .i32⟩
  | 58 => ⟨S1, .i32⟩
  | 59 => ⟨S_, .i32⟩
  | 60 => ⟨S8x1568, .i64⟩
  | 61 => ⟨S8x1568, .i64⟩
  | 62 => ⟨S_, .i64⟩
  | 63 => ⟨S8x1568, .i64⟩
  | 64 => ⟨S8x1568, .i64⟩
  | 65 => ⟨S_, .i64⟩
  | 66 => ⟨S8x1568, .i64⟩
  | 67 => ⟨S8x1568, .i64⟩
  | 68 => ⟨S8x1568, .i64⟩
  | 69 => ⟨S_, .i64⟩
  | 70 => ⟨S8x1568, .i64⟩
  | 71 => ⟨S8x1568, .i64⟩
  | 72 => ⟨S8x1568, .i32⟩
  | 73 => ⟨S8x1568, .i32⟩
  | 74 => ⟨S_, .i32⟩
  | 75 => ⟨S_, .i32⟩
  | 76 => ⟨S_, .i32⟩
  | 77 => ⟨S8x1568, .i32⟩
  | 78 => ⟨S8x1568, .i32⟩
  | 79 => ⟨S8x1568, .i32⟩
  | 80 => ⟨S8x1568, .i32⟩
  | 81 => ⟨S8x1568, .i32⟩
  | 82 => ⟨S_, .i32⟩
  | 83 => ⟨S8x1568, .i32⟩
  | 84 => ⟨S8x1568, .i32⟩
  | 85 => ⟨S_, .i32⟩
  | 86 => ⟨S8x1568, .i32⟩
  | 87 => ⟨S8x1568, .i32⟩
  | 88 => ⟨S8x1568, .i32⟩
  | 89 => ⟨S8x1568, .i32⟩
  | 90 => ⟨S8x1568, .i32⟩
  | 91 => ⟨S_, .i32⟩
  | 92 => ⟨S8x1568, .i32⟩
  | 93 => ⟨S8x1568, .i32⟩
  | 94 => ⟨S_, .i32⟩
  | 95 => ⟨S8x1568, .i32⟩
  | 96 => ⟨S8x1568, .i32⟩
  | 97 => ⟨S8x1568, .i32⟩
  | 98 => ⟨S8x1568, .i32⟩
  | 99 => ⟨S8x1568, .i32⟩
  | 100 => ⟨S_, .i32⟩
  | 101 => ⟨S8x1568, .i32⟩
  | 102 => ⟨S8x1568, .i32⟩
  | 103 => ⟨S_, .i32⟩
  | 104 => ⟨S8x1568, .i32⟩
  | 105 => ⟨S8x1568, .i32⟩
  | 106 => ⟨S8x1568, .i32⟩
  | 107 => ⟨S8x1568, .i32⟩
  | 108 => ⟨S8x1568, .i32⟩
  | 109 => ⟨S_, .i32⟩
  | 110 => ⟨S8x1568, .i32⟩
  | 111 => ⟨S8x1568, .i32⟩
  | 112 => ⟨S_, .i32⟩
  | 113 => ⟨S8x1568, .i32⟩
  | 114 => ⟨S8x1568, .i32⟩
  | 115 => ⟨S8x1568, .i32⟩
  | 116 => ⟨S8x1568, .i32⟩
  | 117 => ⟨S8x1568, .i32⟩
  | 118 => ⟨S8x1568, .i32⟩
  | 119 => ⟨S8x1568, .i32⟩
  | 120 => ⟨S8x1568, .i32⟩
  | 121 => ⟨S_, .i32⟩
  | 122 => ⟨S8x1568, .i32⟩
  | 123 => ⟨S8x1568, .i32⟩
  | 124 => ⟨S8x1568, .i32⟩
  | 125 => ⟨S_, .i32⟩
  | 126 => ⟨S8x1568, .i32⟩
  | 127 => ⟨S8x1568, .i32⟩
  | _ => ⟨S8x1568x384, .f32⟩

abbrev hbmTy0_1 (i : Nat) : BufTy := match i % 128 with
  | 0 => ⟨S_, .i32⟩
  | 1 => ⟨S8x1568, .i32⟩
  | 2 => ⟨S8x1568, .i32⟩
  | 3 => ⟨S8x1568, .i32⟩
  | 4 => ⟨S8x1568, .i32⟩
  | 5 => ⟨S8x1568, .i32⟩
  | 6 => ⟨S_, .i32⟩
  | 7 => ⟨S8x1568, .i32⟩
  | 8 => ⟨S8x1568, .i32⟩
  | 9 => ⟨S_, .i32⟩
  | 10 => ⟨S8x1568, .i32⟩
  | 11 => ⟨S8x1568, .i32⟩
  | 12 => ⟨S8x1568, .i32⟩
  | 13 => ⟨S8x1568, .i32⟩
  | 14 => ⟨S8x1568, .i32⟩
  | 15 => ⟨S_, .i32⟩
  | 16 => ⟨S8x1568, .i32⟩
  | 17 => ⟨S8x1568, .i32⟩
  | 18 => ⟨S_, .i32⟩
  | 19 => ⟨S8x1568, .i32⟩
  | 20 => ⟨S8x1568, .i32⟩
  | 21 => ⟨S8x1568, .i32⟩
  | 22 => ⟨S8x1568, .i32⟩
  | 23 => ⟨S8x1568, .i32⟩
  | 24 => ⟨S_, .i32⟩
  | 25 => ⟨S8x1568, .i32⟩
  | 26 => ⟨S8x1568, .i32⟩
  | 27 => ⟨S_, .i32⟩
  | 28 => ⟨S8x1568, .i32⟩
  | 29 => ⟨S8x1568, .i32⟩
  | 30 => ⟨S8x1568, .i32⟩
  | 31 => ⟨S8x1568, .i32⟩
  | 32 => ⟨S8x1568, .i32⟩
  | 33 => ⟨S8x1568, .i32⟩
  | 34 => ⟨S8x1568, .i32⟩
  | 35 => ⟨S8x1568, .i32⟩
  | 36 => ⟨S_, .i32⟩
  | 37 => ⟨S8x1568, .i32⟩
  | 38 => ⟨S8x1568, .i32⟩
  | 39 => ⟨S8x1568, .i32⟩
  | 40 => ⟨S_, .i32⟩
  | 41 => ⟨S8x1568, .i32⟩
  | 42 => ⟨S8x1568, .i32⟩
  | 43 => ⟨S_, .i32⟩
  | 44 => ⟨S8x1568, .i32⟩
  | 45 => ⟨S8x1568, .i32⟩
  | 46 => ⟨S8x1568, .i32⟩
  | 47 => ⟨S8x1568, .i32⟩
  | 48 => ⟨S8x1568, .i32⟩
  | 49 => ⟨S_, .i32⟩
  | 50 => ⟨S8x1568, .i32⟩
  | 51 => ⟨S8x1568, .i32⟩
  | 52 => ⟨S_, .i32⟩
  | 53 => ⟨S8x1568, .i32⟩
  | 54 => ⟨S8x1568, .i32⟩
  | 55 => ⟨S8x1568, .i32⟩
  | 56 => ⟨S8x1568, .i32⟩
  | 57 => ⟨S8x1568, .i32⟩
  | 58 => ⟨S_, .i32⟩
  | 59 => ⟨S8x1568, .i32⟩
  | 60 => ⟨S8x1568, .i32⟩
  | 61 => ⟨S_, .i32⟩
  | 62 => ⟨S8x1568, .i32⟩
  | 63 => ⟨S8x1568, .i32⟩
  | 64 => ⟨S8x1568, .i32⟩
  | 65 => ⟨S8x1568, .i32⟩
  | 66 => ⟨S8x1568, .i32⟩
  | 67 => ⟨S_, .i32⟩
  | 68 => ⟨S8x1568, .i32⟩
  | 69 => ⟨S8x1568, .i32⟩
  | 70 => ⟨S_, .i32⟩
  | 71 => ⟨S8x1568, .i32⟩
  | 72 => ⟨S8x1568, .i32⟩
  | 73 => ⟨S8x1568, .i32⟩
  | 74 => ⟨S8x1568, .i32⟩
  | 75 => ⟨S8x1568, .i32⟩
  | 76 => ⟨S8x1568, .i32⟩
  | 77 => ⟨S8x1568, .i32⟩
  | 78 => ⟨S8x1568, .i32⟩
  | 79 => ⟨S_, .i32⟩
  | 80 => ⟨S8x1568, .i32⟩
  | 81 => ⟨S8x1568, .i32⟩
  | 82 => ⟨S8x1568, .i32⟩
  | 83 => ⟨S_, .i32⟩
  | 84 => ⟨S8x1568, .i32⟩
  | 85 => ⟨S8x1568, .i32⟩
  | 86 => ⟨S_, .i32⟩
  | 87 => ⟨S8x1568, .i32⟩
  | 88 => ⟨S8x1568, .i32⟩
  | 89 => ⟨S8x1568, .i32⟩
  | 90 => ⟨S8x1568, .i32⟩
  | 91 => ⟨S8x1568, .i32⟩
  | 92 => ⟨S_, .i32⟩
  | 93 => ⟨S8x1568, .i32⟩
  | 94 => ⟨S8x1568, .i32⟩
  | 95 => ⟨S_, .i32⟩
  | 96 => ⟨S8x1568, .i32⟩
  | 97 => ⟨S8x1568, .i32⟩
  | 98 => ⟨S8x1568, .i32⟩
  | 99 => ⟨S8x1568, .i32⟩
  | 100 => ⟨S8x1568, .i32⟩
  | 101 => ⟨S_, .i32⟩
  | 102 => ⟨S8x1568, .i32⟩
  | 103 => ⟨S8x1568, .i32⟩
  | 104 => ⟨S_, .i32⟩
  | 105 => ⟨S8x1568, .i32⟩
  | 106 => ⟨S8x1568, .i32⟩
  | 107 => ⟨S8x1568, .i32⟩
  | 108 => ⟨S8x1568, .i32⟩
  | 109 => ⟨S8x1568, .i32⟩
  | 110 => ⟨S_, .i32⟩
  | 111 => ⟨S8x1568, .i32⟩
  | 112 => ⟨S8x1568, .i32⟩
  | 113 => ⟨S_, .i32⟩
  | 114 => ⟨S8x1568, .i32⟩
  | 115 => ⟨S8x1568, .i32⟩
  | 116 => ⟨S8x1568, .i32⟩
  | 117 => ⟨S8x1568, .i32⟩
  | 118 => ⟨S8x1568, .i32⟩
  | 119 => ⟨S8x1568, .i32⟩
  | 120 => ⟨S8x1568, .i32⟩
  | 121 => ⟨S8x1568, .i32⟩
  | 122 => ⟨S_, .i32⟩
  | 123 => ⟨S8x1568, .i32⟩
  | 124 => ⟨S8x1568, .i32⟩
  | 125 => ⟨S8x1568, .i32⟩
  | 126 => ⟨S_, .i32⟩
  | 127 => ⟨S8x1568, .i32⟩
  | _ => ⟨S8x1568x384, .f32⟩

abbrev hbmTy0_2 (i : Nat) : BufTy := match i % 128 with
  | 0 => ⟨S8x1568, .i32⟩
  | 1 => ⟨S_, .i32⟩
  | 2 => ⟨S8x1568, .i32⟩
  | 3 => ⟨S8x1568, .i32⟩
  | 4 => ⟨S8x1568, .i32⟩
  | 5 => ⟨S8x1568, .i32⟩
  | 6 => ⟨S8x1568, .i32⟩
  | 7 => ⟨S_, .i32⟩
  | 8 => ⟨S8x1568, .i32⟩
  | 9 => ⟨S8x1568, .i32⟩
  | 10 => ⟨S_, .i32⟩
  | 11 => ⟨S8x1568, .i32⟩
  | 12 => ⟨S8x1568, .i32⟩
  | 13 => ⟨S8x1568, .i32⟩
  | 14 => ⟨S8x1568, .i32⟩
  | 15 => ⟨S8x1568, .i32⟩
  | 16 => ⟨S_, .i32⟩
  | 17 => ⟨S8x1568, .i32⟩
  | 18 => ⟨S8x1568, .i32⟩
  | 19 => ⟨S_, .i32⟩
  | 20 => ⟨S8x1568, .i32⟩
  | 21 => ⟨S8x1568, .i32⟩
  | 22 => ⟨S8x1568, .i32⟩
  | 23 => ⟨S8x1568, .i32⟩
  | 24 => ⟨S8x1568, .i32⟩
  | 25 => ⟨S_, .i32⟩
  | 26 => ⟨S8x1568, .i32⟩
  | 27 => ⟨S8x1568, .i32⟩
  | 28 => ⟨S_, .i32⟩
  | 29 => ⟨S8x1568, .i32⟩
  | 30 => ⟨S8x1568, .i32⟩
  | 31 => ⟨S8x1568, .i32⟩
  | 32 => ⟨S8x1568, .i32⟩
  | 33 => ⟨S8x1568, .i32⟩
  | 34 => ⟨S8x1568, .i32⟩
  | 35 => ⟨S8x1568, .i32⟩
  | 36 => ⟨S8x1568, .i32⟩
  | 37 => ⟨S_, .i32⟩
  | 38 => ⟨S8x1568, .i32⟩
  | 39 => ⟨S8x1568, .i32⟩
  | 40 => ⟨S8x1568, .i32⟩
  | 41 => ⟨S_, .i32⟩
  | 42 => ⟨S8x1568, .i32⟩
  | 43 => ⟨S8x1568, .i32⟩
  | 44 => ⟨S_, .i32⟩
  | 45 => ⟨S8x1568, .i32⟩
  | 46 => ⟨S8x1568, .i32⟩
  | 47 => ⟨S8x1568, .f32⟩
  | 48 => ⟨S_, .f32⟩
  | 49 => ⟨S8x1568, .f32⟩
  | 50 => ⟨S8x1568, .f32⟩
  | 51 => ⟨S1x1, .f32⟩
  | 52 => ⟨S8x1568, .f32⟩
  | 53 => ⟨S8x1568, .f32⟩
  | 54 => ⟨S8x1568, .f32⟩
  | 55 => ⟨S8x1568, .f32⟩
  | 56 => ⟨S8x1568, .f32⟩
  | 57 => ⟨S8x1568, .f32⟩
  | 58 => ⟨S_, .f32⟩
  | 59 => ⟨S8x1568, .f32⟩
  | 60 => ⟨S8x1568, .f32⟩
  | 61 => ⟨S8x1568, .f32⟩
  | 62 => ⟨S8x1x1568, .f32⟩
  | 63 => ⟨S8x1568x1, .f32⟩
  | 64 => ⟨S8x1568x1568, .f32⟩
  | 65 => ⟨S8x1568x1568, .f32⟩
  | 66 => ⟨S8x1568x1568, .i1⟩
  | 67 => ⟨S8x1568x1568, .f32⟩
  | 68 => ⟨S8x2458624, .f32⟩
  | 69 => ⟨S_, .f32⟩
  | 70 => ⟨S8, .f32⟩
  | 71 => ⟨S8x1x1, .f32⟩
  | 72 => ⟨S8x1568x1568, .f32⟩
  | 73 => ⟨S_, .f32⟩
  | 74 => ⟨S8x1568x1568, .f32⟩
  | 75 => ⟨S8x1568x1568, .f32⟩
  | 76 => ⟨S8x1568x1568, .f32⟩
  | 77 => ⟨S8x1568x1568, .f32⟩
  | 78 => ⟨S8x1568x1568, .f32⟩
  | 79 => ⟨S_, .f32⟩
  | 80 => ⟨S8x1568, .f32⟩
  | 81 => ⟨S8x1568, .f32⟩
  | 82 => ⟨S8x196, .f32⟩
  | 83 => ⟨S8x196, .i32⟩
  | 84 => ⟨S8x196x1, .i32⟩
  | 85 => ⟨S_, .i32⟩
  | 86 => ⟨S8x196x1, .i32⟩
  | 87 => ⟨S8x196x1, .i1⟩
  | 88 => ⟨S_, .i32⟩
  | 89 => ⟨S8x196x1, .i32⟩
  | 90 => ⟨S8x196x1, .i32⟩
  | 91 => ⟨S8x196x1, .i32⟩
  | 92 => ⟨S1, .i32⟩
  | 93 => ⟨S_, .i32⟩
  | 94 => ⟨S8x196x1, .i32⟩
  | 95 => ⟨S8x196x1, .i1⟩
  | 96 => ⟨S1x1x1, .i32⟩
  | 97 => ⟨S8x196x1, .i32⟩
  | 98 => ⟨S8x196x1, .i1⟩
  | 99 => ⟨S8x196x1, .i1⟩
  | 100 => ⟨S_, .i1⟩
  | 101 => ⟨S8x196, .i1⟩
  | 102 => ⟨S8x196x1568, .f32⟩
  | 103 => ⟨S8x196x1568, .i1⟩
  | 104 => ⟨S_, .f32⟩
  | 105 => ⟨S8x196x1568, .f32⟩
  | 106 => ⟨S8x196x1568, .f32⟩
  | 107 => ⟨S8x196x1568, .i32⟩
  | 108 => ⟨S_, .f32⟩
  | 109 => ⟨S_, .i32⟩
  | 110 => ⟨S8x1568, .f32⟩
  | 111 => ⟨S8x1568, .i32⟩
  | 112 => ⟨S8, .i32⟩
  | 113 => ⟨S8x196, .i32⟩
  | 114 => ⟨S1568, .i32⟩
  | 115 => ⟨S196, .i32⟩
  | 116 => ⟨S1x196, .i32⟩
  | 117 => ⟨S8x196, .i32⟩
  | 118 => ⟨S1568, .i32⟩
  | 119 => ⟨S1568, .i32⟩
  | 120 => ⟨S_, .i32⟩
  | 121 => ⟨S1568, .i32⟩
  | 122 => ⟨S1568, .i1⟩
  | 123 => ⟨S_, .i32⟩
  | 124 => ⟨S1568, .i32⟩
  | 125 => ⟨S1568, .i32⟩
  | 126 => ⟨S1568, .i32⟩
  | 127 => ⟨S_, .i32⟩
  | _ => ⟨S8x1568x384, .f32⟩

abbrev hbmTy0_3 (i : Nat) : BufTy := match i % 128 with
  | 0 => ⟨S1568, .i32⟩
  | 1 => ⟨S1568, .i1⟩
  | 2 => ⟨S_, .i32⟩
  | 3 => ⟨S1568, .i32⟩
  | 4 => ⟨S1568, .i32⟩
  | 5 => ⟨S1568, .i32⟩
  | 6 => ⟨S1568x1, .i32⟩
  | 7 => ⟨S1568x1, .i32⟩
  | 8 => ⟨S1568x2, .i32⟩
  | 9 => ⟨S8x1568, .i32⟩
  | 10 => ⟨S8, .i32⟩
  | 11 => ⟨S8x1, .i32⟩
  | 12 => ⟨S_, .i32⟩
  | 13 => ⟨S8x1, .i32⟩
  | 14 => ⟨S8x1, .i32⟩
  | 15 => ⟨S8x1568, .i32⟩
  | 16 => ⟨S8x1568, .i32⟩
  | 17 => ⟨S12544, .i32⟩
  | 18 => ⟨S_, .f32⟩
  | 19 => ⟨S1568x1, .f32⟩
  | 20 => ⟨S12544x1, .f32⟩
  | 21 => ⟨S_, .i32⟩
  | 22 => ⟨S12544, .i32⟩
  | 23 => ⟨S12544, .i1⟩
  | 24 => ⟨S_, .i32⟩
  | 25 => ⟨S12544, .i32⟩
  | 26 => ⟨S12544, .i32⟩
  | 27 => ⟨S12544, .i32⟩
  | 28 => ⟨S12544x1, .i32⟩
  | 29 => ⟨S1568x1, .f32⟩
  | 30 => ⟨S_, .f32⟩
  | 31 => ⟨S1568x1, .f32⟩
  | 32 => ⟨S1568x1, .f32⟩
  | 33 => ⟨S_, .i32⟩
  | 34 => ⟨S12544, .i32⟩
  | 35 => ⟨S12544, .i1⟩
  | 36 => ⟨S_, .i32⟩
  | 37 => ⟨S12544, .i32⟩
  | 38 => ⟨S12544, .i32⟩
  | 39 => ⟨S12544, .i32⟩
  | 40 => ⟨S12544x1, .i32⟩
  | 41 => ⟨S12544x1, .f32⟩
  | 42 => ⟨S8x1568x1, .f32⟩
  | 43 => ⟨S8x1568x1, .f32⟩
  | 44 => ⟨S8x1568x384, .f32⟩
  | 45 => ⟨S8x1568x384, .f32⟩
  | 46 => ⟨S12544x384, .f32⟩
  | 47 => ⟨S_, .f32⟩
  | 48 => ⟨S1568x384, .f32⟩
  | 49 => ⟨S_, .i32⟩
  | 50 => ⟨S12544, .i32⟩
  | 51 => ⟨S12544, .i1⟩
  | 52 => ⟨S_, .i32⟩
  | 53 => ⟨S12544, .i32⟩
  | 54 => ⟨S12544, .i32⟩
  | 55 => ⟨S12544, .i32⟩
  | 56 => ⟨S12544x1, .i32⟩
  | 57 => ⟨S1568x384, .f32⟩
  | 58 => ⟨S8x196x384, .f32⟩
  | _ => ⟨S8x1568x384, .f32⟩

abbrev hbmTy (i : Nat) : BufTy := match i / 128 with
  | 0 => hbmTy0_0 i
  | 1 => hbmTy0_1 i
  | 2 => hbmTy0_2 i
  | 3 => hbmTy0_3 i
  | _ => ⟨S8x1568x384, .f32⟩

abbrev bufTy : (tb : Table) → Fin (tcTables nBuf tb) → BufTy
  | .hbm, ⟨i, _⟩ => hbmTy i
  | _, _ => ⟨S8x1568x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_values : Ref sig .tc := ⟨.hbm, 29, rfl⟩
abbrev main_indices : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_cst_8 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_c : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_call0_v14 : Ref sig .tc := ⟨.hbm, 68, rfl⟩
abbrev main_call0_c_1 : Ref sig .tc := ⟨.hbm, 69, rfl⟩
abbrev main_call0_v15 : Ref sig .tc := ⟨.hbm, 70, rfl⟩
abbrev main_call0_v16 : Ref sig .tc := ⟨.hbm, 71, rfl⟩
abbrev main_call0_v17 : Ref sig .tc := ⟨.hbm, 72, rfl⟩
abbrev main_call0_v18 : Ref sig .tc := ⟨.hbm, 73, rfl⟩
abbrev main_call0_call0_v0 : Ref sig .tc := ⟨.hbm, 74, rfl⟩
abbrev main_call0_call0_c : Ref sig .tc := ⟨.hbm, 75, rfl⟩
abbrev main_call0_call0_v1 : Ref sig .tc := ⟨.hbm, 76, rfl⟩
abbrev main_call0_call0_v2 : Ref sig .tc := ⟨.hbm, 77, rfl⟩
abbrev main_call0_call0_v3 : Ref sig .tc := ⟨.hbm, 78, rfl⟩
abbrev main_call0_call0_v4 : Ref sig .tc := ⟨.hbm, 79, rfl⟩
abbrev main_call0_call0_v5 : Ref sig .tc := ⟨.hbm, 80, rfl⟩
abbrev main_call0_call0_v6 : Ref sig .tc := ⟨.hbm, 81, rfl⟩
abbrev main_call0_call0_c_0 : Ref sig .tc := ⟨.hbm, 82, rfl⟩
abbrev main_call0_call0_v7 : Ref sig .tc := ⟨.hbm, 83, rfl⟩
abbrev main_call0_call0_v8 : Ref sig .tc := ⟨.hbm, 84, rfl⟩
abbrev main_call0_call0_c_1 : Ref sig .tc := ⟨.hbm, 85, rfl⟩
abbrev main_call0_call0_v9 : Ref sig .tc := ⟨.hbm, 86, rfl⟩
abbrev main_call0_call0_v10 : Ref sig .tc := ⟨.hbm, 87, rfl⟩
abbrev main_call0_call0_v11 : Ref sig .tc := ⟨.hbm, 88, rfl⟩
abbrev main_call0_call0_v12 : Ref sig .tc := ⟨.hbm, 89, rfl⟩
abbrev main_call0_call0_v13 : Ref sig .tc := ⟨.hbm, 90, rfl⟩
abbrev main_call0_call0_c_2 : Ref sig .tc := ⟨.hbm, 91, rfl⟩
abbrev main_call0_call0_v14 : Ref sig .tc := ⟨.hbm, 92, rfl⟩
abbrev main_call0_call0_v15 : Ref sig .tc := ⟨.hbm, 93, rfl⟩
abbrev main_call0_call0_c_3 : Ref sig .tc := ⟨.hbm, 94, rfl⟩
abbrev main_call0_call0_v16 : Ref sig .tc := ⟨.hbm, 95, rfl⟩
abbrev main_call0_call0_v17 : Ref sig .tc := ⟨.hbm, 96, rfl⟩
abbrev main_call0_call0_v18 : Ref sig .tc := ⟨.hbm, 97, rfl⟩
abbrev main_call0_call0_v19 : Ref sig .tc := ⟨.hbm, 98, rfl⟩
abbrev main_call0_call0_v20 : Ref sig .tc := ⟨.hbm, 99, rfl⟩
abbrev main_call0_call0_c_4 : Ref sig .tc := ⟨.hbm, 100, rfl⟩
abbrev main_call0_call0_v21 : Ref sig .tc := ⟨.hbm, 101, rfl⟩
abbrev main_call0_call0_v22 : Ref sig .tc := ⟨.hbm, 102, rfl⟩
abbrev main_call0_call0_c_5 : Ref sig .tc := ⟨.hbm, 103, rfl⟩
abbrev main_call0_call0_v23 : Ref sig .tc := ⟨.hbm, 104, rfl⟩
abbrev main_call0_call0_v24 : Ref sig .tc := ⟨.hbm, 105, rfl⟩
abbrev main_call0_call0_v25 : Ref sig .tc := ⟨.hbm, 106, rfl⟩
abbrev main_call0_call0_v26 : Ref sig .tc := ⟨.hbm, 107, rfl⟩
abbrev main_call0_call0_v27 : Ref sig .tc := ⟨.hbm, 108, rfl⟩
abbrev main_call0_call0_c_6 : Ref sig .tc := ⟨.hbm, 109, rfl⟩
abbrev main_call0_call0_v28 : Ref sig .tc := ⟨.hbm, 110, rfl⟩
abbrev main_call0_call0_v29 : Ref sig .tc := ⟨.hbm, 111, rfl⟩
abbrev main_call0_call0_c_7 : Ref sig .tc := ⟨.hbm, 112, rfl⟩
abbrev main_call0_call0_v30 : Ref sig .tc := ⟨.hbm, 113, rfl⟩
abbrev main_call0_call0_v31 : Ref sig .tc := ⟨.hbm, 114, rfl⟩
abbrev main_call0_call0_v32 : Ref sig .tc := ⟨.hbm, 115, rfl⟩
abbrev main_call0_call0_v33 : Ref sig .tc := ⟨.hbm, 116, rfl⟩
abbrev main_call0_call0_v34 : Ref sig .tc := ⟨.hbm, 117, rfl⟩
abbrev main_call0_call0_v35 : Ref sig .tc := ⟨.hbm, 118, rfl⟩
abbrev main_call0_call0_v36 : Ref sig .tc := ⟨.hbm, 119, rfl⟩
abbrev main_call0_call0_v37 : Ref sig .tc := ⟨.hbm, 120, rfl⟩
abbrev main_call0_call0_c_8 : Ref sig .tc := ⟨.hbm, 121, rfl⟩
abbrev main_call0_call0_v38 : Ref sig .tc := ⟨.hbm, 122, rfl⟩
abbrev main_call0_call0_v39 : Ref sig .tc := ⟨.hbm, 123, rfl⟩
abbrev main_call0_call0_v40 : Ref sig .tc := ⟨.hbm, 124, rfl⟩
abbrev main_call0_call0_c_9 : Ref sig .tc := ⟨.hbm, 125, rfl⟩
abbrev main_call0_call0_v41 : Ref sig .tc := ⟨.hbm, 126, rfl⟩
abbrev main_call0_call0_v42 : Ref sig .tc := ⟨.hbm, 127, rfl⟩
abbrev main_call0_call0_c_10 : Ref sig .tc := ⟨.hbm, 128, rfl⟩
abbrev main_call0_call0_v43 : Ref sig .tc := ⟨.hbm, 129, rfl⟩
abbrev main_call0_call0_v44 : Ref sig .tc := ⟨.hbm, 130, rfl⟩
abbrev main_call0_call0_v45 : Ref sig .tc := ⟨.hbm, 131, rfl⟩
abbrev main_call0_call0_v46 : Ref sig .tc := ⟨.hbm, 132, rfl⟩
abbrev main_call0_call0_v47 : Ref sig .tc := ⟨.hbm, 133, rfl⟩
abbrev main_call0_call0_c_11 : Ref sig .tc := ⟨.hbm, 134, rfl⟩
abbrev main_call0_call0_v48 : Ref sig .tc := ⟨.hbm, 135, rfl⟩
abbrev main_call0_call0_v49 : Ref sig .tc := ⟨.hbm, 136, rfl⟩
abbrev main_call0_call0_c_12 : Ref sig .tc := ⟨.hbm, 137, rfl⟩
abbrev main_call0_call0_v50 : Ref sig .tc := ⟨.hbm, 138, rfl⟩
abbrev main_call0_call0_v51 : Ref sig .tc := ⟨.hbm, 139, rfl⟩
abbrev main_call0_call0_v52 : Ref sig .tc := ⟨.hbm, 140, rfl⟩
abbrev main_call0_call0_v53 : Ref sig .tc := ⟨.hbm, 141, rfl⟩
abbrev main_call0_call0_v54 : Ref sig .tc := ⟨.hbm, 142, rfl⟩
abbrev main_call0_call0_c_13 : Ref sig .tc := ⟨.hbm, 143, rfl⟩
abbrev main_call0_call0_v55 : Ref sig .tc := ⟨.hbm, 144, rfl⟩
abbrev main_call0_call0_v56 : Ref sig .tc := ⟨.hbm, 145, rfl⟩
abbrev main_call0_call0_c_14 : Ref sig .tc := ⟨.hbm, 146, rfl⟩
abbrev main_call0_call0_v57 : Ref sig .tc := ⟨.hbm, 147, rfl⟩
abbrev main_call0_call0_v58 : Ref sig .tc := ⟨.hbm, 148, rfl⟩
abbrev main_call0_call0_v59 : Ref sig .tc := ⟨.hbm, 149, rfl⟩
abbrev main_call0_call0_v60 : Ref sig .tc := ⟨.hbm, 150, rfl⟩
abbrev main_call0_call0_v61 : Ref sig .tc := ⟨.hbm, 151, rfl⟩
abbrev main_call0_call0_c_15 : Ref sig .tc := ⟨.hbm, 152, rfl⟩
abbrev main_call0_call0_v62 : Ref sig .tc := ⟨.hbm, 153, rfl⟩
abbrev main_call0_call0_v63 : Ref sig .tc := ⟨.hbm, 154, rfl⟩
abbrev main_call0_call0_c_16 : Ref sig .tc := ⟨.hbm, 155, rfl⟩
abbrev main_call0_call0_v64 : Ref sig .tc := ⟨.hbm, 156, rfl⟩
abbrev main_call0_call0_v65 : Ref sig .tc := ⟨.hbm, 157, rfl⟩
abbrev main_call0_call0_v66 : Ref sig .tc := ⟨.hbm, 158, rfl⟩
abbrev main_call0_call0_v67 : Ref sig .tc := ⟨.hbm, 159, rfl⟩
abbrev main_call0_call0_v68 : Ref sig .tc := ⟨.hbm, 160, rfl⟩
abbrev main_call0_call0_v69 : Ref sig .tc := ⟨.hbm, 161, rfl⟩
abbrev main_call0_call0_v70 : Ref sig .tc := ⟨.hbm, 162, rfl⟩
abbrev main_call0_call0_v71 : Ref sig .tc := ⟨.hbm, 163, rfl⟩
abbrev main_call0_call0_c_17 : Ref sig .tc := ⟨.hbm, 164, rfl⟩
abbrev main_call0_call0_v72 : Ref sig .tc := ⟨.hbm, 165, rfl⟩
abbrev main_call0_call0_v73 : Ref sig .tc := ⟨.hbm, 166, rfl⟩
abbrev main_call0_call0_v74 : Ref sig .tc := ⟨.hbm, 167, rfl⟩
abbrev main_call0_call0_c_18 : Ref sig .tc := ⟨.hbm, 168, rfl⟩
abbrev main_call0_call0_v75 : Ref sig .tc := ⟨.hbm, 169, rfl⟩
abbrev main_call0_call0_v76 : Ref sig .tc := ⟨.hbm, 170, rfl⟩
abbrev main_call0_call0_c_19 : Ref sig .tc := ⟨.hbm, 171, rfl⟩
abbrev main_call0_call0_v77 : Ref sig .tc := ⟨.hbm, 172, rfl⟩
abbrev main_call0_call0_v78 : Ref sig .tc := ⟨.hbm, 173, rfl⟩
abbrev main_call0_call0_v79 : Ref sig .tc := ⟨.hbm, 174, rfl⟩
abbrev main_call0_call0_v80 : Ref sig .tc := ⟨.hbm, 175, rfl⟩
abbrev main_call0_call0_v81 : Ref sig .tc := ⟨.hbm, 176, rfl⟩
abbrev main_call0_call0_c_20 : Ref sig .tc := ⟨.hbm, 177, rfl⟩
abbrev main_call0_call0_v82 : Ref sig .tc := ⟨.hbm, 178, rfl⟩
abbrev main_call0_call0_v83 : Ref sig .tc := ⟨.hbm, 179, rfl⟩
abbrev main_call0_call0_c_21 : Ref sig .tc := ⟨.hbm, 180, rfl⟩
abbrev main_call0_call0_v84 : Ref sig .tc := ⟨.hbm, 181, rfl⟩
abbrev main_call0_call0_v85 : Ref sig .tc := ⟨.hbm, 182, rfl⟩
abbrev main_call0_call0_v86 : Ref sig .tc := ⟨.hbm, 183, rfl⟩
abbrev main_call0_call0_v87 : Ref sig .tc := ⟨.hbm, 184, rfl⟩
abbrev main_call0_call0_v88 : Ref sig .tc := ⟨.hbm, 185, rfl⟩
abbrev main_call0_call0_c_22 : Ref sig .tc := ⟨.hbm, 186, rfl⟩
abbrev main_call0_call0_v89 : Ref sig .tc := ⟨.hbm, 187, rfl⟩
abbrev main_call0_call0_v90 : Ref sig .tc := ⟨.hbm, 188, rfl⟩
abbrev main_call0_call0_c_23 : Ref sig .tc := ⟨.hbm, 189, rfl⟩
abbrev main_call0_call0_v91 : Ref sig .tc := ⟨.hbm, 190, rfl⟩
abbrev main_call0_call0_v92 : Ref sig .tc := ⟨.hbm, 191, rfl⟩
abbrev main_call0_call0_v93 : Ref sig .tc := ⟨.hbm, 192, rfl⟩
abbrev main_call0_call0_v94 : Ref sig .tc := ⟨.hbm, 193, rfl⟩
abbrev main_call0_call0_v95 : Ref sig .tc := ⟨.hbm, 194, rfl⟩
abbrev main_call0_call0_c_24 : Ref sig .tc := ⟨.hbm, 195, rfl⟩
abbrev main_call0_call0_v96 : Ref sig .tc := ⟨.hbm, 196, rfl⟩
abbrev main_call0_call0_v97 : Ref sig .tc := ⟨.hbm, 197, rfl⟩
abbrev main_call0_call0_c_25 : Ref sig .tc := ⟨.hbm, 198, rfl⟩
abbrev main_call0_call0_v98 : Ref sig .tc := ⟨.hbm, 199, rfl⟩
abbrev main_call0_call0_v99 : Ref sig .tc := ⟨.hbm, 200, rfl⟩
abbrev main_call0_call0_v100 : Ref sig .tc := ⟨.hbm, 201, rfl⟩
abbrev main_call0_call0_v101 : Ref sig .tc := ⟨.hbm, 202, rfl⟩
abbrev main_call0_call0_v102 : Ref sig .tc := ⟨.hbm, 203, rfl⟩
abbrev main_call0_call0_v103 : Ref sig .tc := ⟨.hbm, 204, rfl⟩
abbrev main_call0_call0_v104 : Ref sig .tc := ⟨.hbm, 205, rfl⟩
abbrev main_call0_call0_v105 : Ref sig .tc := ⟨.hbm, 206, rfl⟩
abbrev main_call0_call0_c_26 : Ref sig .tc := ⟨.hbm, 207, rfl⟩
abbrev main_call0_call0_v106 : Ref sig .tc := ⟨.hbm, 208, rfl⟩
abbrev main_call0_call0_v107 : Ref sig .tc := ⟨.hbm, 209, rfl⟩
abbrev main_call0_call0_v108 : Ref sig .tc := ⟨.hbm, 210, rfl⟩
abbrev main_call0_call0_c_27 : Ref sig .tc := ⟨.hbm, 211, rfl⟩
abbrev main_call0_call0_v109 : Ref sig .tc := ⟨.hbm, 212, rfl⟩
abbrev main_call0_call0_v110 : Ref sig .tc := ⟨.hbm, 213, rfl⟩
abbrev main_call0_call0_c_28 : Ref sig .tc := ⟨.hbm, 214, rfl⟩
abbrev main_call0_call0_v111 : Ref sig .tc := ⟨.hbm, 215, rfl⟩
abbrev main_call0_call0_v112 : Ref sig .tc := ⟨.hbm, 216, rfl⟩
abbrev main_call0_call0_v113 : Ref sig .tc := ⟨.hbm, 217, rfl⟩
abbrev main_call0_call0_v114 : Ref sig .tc := ⟨.hbm, 218, rfl⟩
abbrev main_call0_call0_v115 : Ref sig .tc := ⟨.hbm, 219, rfl⟩
abbrev main_call0_call0_c_29 : Ref sig .tc := ⟨.hbm, 220, rfl⟩
abbrev main_call0_call0_v116 : Ref sig .tc := ⟨.hbm, 221, rfl⟩
abbrev main_call0_call0_v117 : Ref sig .tc := ⟨.hbm, 222, rfl⟩
abbrev main_call0_call0_c_30 : Ref sig .tc := ⟨.hbm, 223, rfl⟩
abbrev main_call0_call0_v118 : Ref sig .tc := ⟨.hbm, 224, rfl⟩
abbrev main_call0_call0_v119 : Ref sig .tc := ⟨.hbm, 225, rfl⟩
abbrev main_call0_call0_v120 : Ref sig .tc := ⟨.hbm, 226, rfl⟩
abbrev main_call0_call0_v121 : Ref sig .tc := ⟨.hbm, 227, rfl⟩
abbrev main_call0_call0_v122 : Ref sig .tc := ⟨.hbm, 228, rfl⟩
abbrev main_call0_call0_c_31 : Ref sig .tc := ⟨.hbm, 229, rfl⟩
abbrev main_call0_call0_v123 : Ref sig .tc := ⟨.hbm, 230, rfl⟩
abbrev main_call0_call0_v124 : Ref sig .tc := ⟨.hbm, 231, rfl⟩
abbrev main_call0_call0_c_32 : Ref sig .tc := ⟨.hbm, 232, rfl⟩
abbrev main_call0_call0_v125 : Ref sig .tc := ⟨.hbm, 233, rfl⟩
abbrev main_call0_call0_v126 : Ref sig .tc := ⟨.hbm, 234, rfl⟩
abbrev main_call0_call0_v127 : Ref sig .tc := ⟨.hbm, 235, rfl⟩
abbrev main_call0_call0_v128 : Ref sig .tc := ⟨.hbm, 236, rfl⟩
abbrev main_call0_call0_v129 : Ref sig .tc := ⟨.hbm, 237, rfl⟩
abbrev main_call0_call0_c_33 : Ref sig .tc := ⟨.hbm, 238, rfl⟩
abbrev main_call0_call0_v130 : Ref sig .tc := ⟨.hbm, 239, rfl⟩
abbrev main_call0_call0_v131 : Ref sig .tc := ⟨.hbm, 240, rfl⟩
abbrev main_call0_call0_c_34 : Ref sig .tc := ⟨.hbm, 241, rfl⟩
abbrev main_call0_call0_v132 : Ref sig .tc := ⟨.hbm, 242, rfl⟩
abbrev main_call0_call0_v133 : Ref sig .tc := ⟨.hbm, 243, rfl⟩
abbrev main_call0_call0_v134 : Ref sig .tc := ⟨.hbm, 244, rfl⟩
abbrev main_call0_call0_v135 : Ref sig .tc := ⟨.hbm, 245, rfl⟩
abbrev main_call0_call0_v136 : Ref sig .tc := ⟨.hbm, 246, rfl⟩
abbrev main_call0_call0_v137 : Ref sig .tc := ⟨.hbm, 247, rfl⟩
abbrev main_call0_call0_v138 : Ref sig .tc := ⟨.hbm, 248, rfl⟩
abbrev main_call0_call0_v139 : Ref sig .tc := ⟨.hbm, 249, rfl⟩
abbrev main_call0_call0_c_35 : Ref sig .tc := ⟨.hbm, 250, rfl⟩
abbrev main_call0_call0_v140 : Ref sig .tc := ⟨.hbm, 251, rfl⟩
abbrev main_call0_call0_v141 : Ref sig .tc := ⟨.hbm, 252, rfl⟩
abbrev main_call0_call0_v142 : Ref sig .tc := ⟨.hbm, 253, rfl⟩
abbrev main_call0_call0_c_36 : Ref sig .tc := ⟨.hbm, 254, rfl⟩
abbrev main_call0_call0_v143 : Ref sig .tc := ⟨.hbm, 255, rfl⟩
abbrev main_call0_call0_v144 : Ref sig .tc := ⟨.hbm, 256, rfl⟩
abbrev main_call0_call0_c_37 : Ref sig .tc := ⟨.hbm, 257, rfl⟩
abbrev main_call0_call0_v145 : Ref sig .tc := ⟨.hbm, 258, rfl⟩
abbrev main_call0_call0_v146 : Ref sig .tc := ⟨.hbm, 259, rfl⟩
abbrev main_call0_call0_v147 : Ref sig .tc := ⟨.hbm, 260, rfl⟩
abbrev main_call0_call0_v148 : Ref sig .tc := ⟨.hbm, 261, rfl⟩
abbrev main_call0_call0_v149 : Ref sig .tc := ⟨.hbm, 262, rfl⟩
abbrev main_call0_call0_c_38 : Ref sig .tc := ⟨.hbm, 263, rfl⟩
abbrev main_call0_call0_v150 : Ref sig .tc := ⟨.hbm, 264, rfl⟩
abbrev main_call0_call0_v151 : Ref sig .tc := ⟨.hbm, 265, rfl⟩
abbrev main_call0_call0_c_39 : Ref sig .tc := ⟨.hbm, 266, rfl⟩
abbrev main_call0_call0_v152 : Ref sig .tc := ⟨.hbm, 267, rfl⟩
abbrev main_call0_call0_v153 : Ref sig .tc := ⟨.hbm, 268, rfl⟩
abbrev main_call0_call0_v154 : Ref sig .tc := ⟨.hbm, 269, rfl⟩
abbrev main_call0_call0_v155 : Ref sig .tc := ⟨.hbm, 270, rfl⟩
abbrev main_call0_call0_v156 : Ref sig .tc := ⟨.hbm, 271, rfl⟩
abbrev main_call0_call0_c_40 : Ref sig .tc := ⟨.hbm, 272, rfl⟩
abbrev main_call0_call0_v157 : Ref sig .tc := ⟨.hbm, 273, rfl⟩
abbrev main_call0_call0_v158 : Ref sig .tc := ⟨.hbm, 274, rfl⟩
abbrev main_call0_call0_c_41 : Ref sig .tc := ⟨.hbm, 275, rfl⟩
abbrev main_call0_call0_v159 : Ref sig .tc := ⟨.hbm, 276, rfl⟩
abbrev main_call0_call0_v160 : Ref sig .tc := ⟨.hbm, 277, rfl⟩
abbrev main_call0_call0_v161 : Ref sig .tc := ⟨.hbm, 278, rfl⟩
abbrev main_call0_call0_v162 : Ref sig .tc := ⟨.hbm, 279, rfl⟩
abbrev main_call0_call0_v163 : Ref sig .tc := ⟨.hbm, 280, rfl⟩
abbrev main_call0_call0_c_42 : Ref sig .tc := ⟨.hbm, 281, rfl⟩
abbrev main_call0_call0_v164 : Ref sig .tc := ⟨.hbm, 282, rfl⟩
abbrev main_call0_call0_v165 : Ref sig .tc := ⟨.hbm, 283, rfl⟩
abbrev main_call0_call0_c_43 : Ref sig .tc := ⟨.hbm, 284, rfl⟩
abbrev main_call0_call0_v166 : Ref sig .tc := ⟨.hbm, 285, rfl⟩
abbrev main_call0_call0_v167 : Ref sig .tc := ⟨.hbm, 286, rfl⟩
abbrev main_call0_call0_v168 : Ref sig .tc := ⟨.hbm, 287, rfl⟩
abbrev main_call0_call0_v169 : Ref sig .tc := ⟨.hbm, 288, rfl⟩
abbrev main_call0_call0_v170 : Ref sig .tc := ⟨.hbm, 289, rfl⟩
abbrev main_call0_v19_0 : Ref sig .tc := ⟨.hbm, 290, rfl⟩
abbrev main_call0_call0_v172 : Ref sig .tc := ⟨.hbm, 291, rfl⟩
abbrev main_call0_call0_v173 : Ref sig .tc := ⟨.hbm, 292, rfl⟩
abbrev main_call0_call0_c_44 : Ref sig .tc := ⟨.hbm, 293, rfl⟩
abbrev main_call0_call0_v174 : Ref sig .tc := ⟨.hbm, 294, rfl⟩
abbrev main_call0_v19_1 : Ref sig .tc := ⟨.hbm, 295, rfl⟩
abbrev main_call0_v20 : Ref sig .tc := ⟨.hbm, 296, rfl⟩
abbrev main_call0_c_2 : Ref sig .tc := ⟨.hbm, 297, rfl⟩
abbrev main_call0_v21 : Ref sig .tc := ⟨.hbm, 298, rfl⟩
abbrev main_call0_v22 : Ref sig .tc := ⟨.hbm, 299, rfl⟩
abbrev main_call0_c_3 : Ref sig .tc := ⟨.hbm, 300, rfl⟩
abbrev main_call0_v23 : Ref sig .tc := ⟨.hbm, 301, rfl⟩
abbrev main_call0_v24 : Ref sig .tc := ⟨.hbm, 302, rfl⟩
abbrev main_call0_v25 : Ref sig .tc := ⟨.hbm, 303, rfl⟩
abbrev main_call0_cst : Ref sig .tc := ⟨.hbm, 304, rfl⟩
abbrev main_call0_v26 : Ref sig .tc := ⟨.hbm, 305, rfl⟩
abbrev main_call0_v27 : Ref sig .tc := ⟨.hbm, 306, rfl⟩
abbrev main_call0_v28 : Ref sig .tc := ⟨.hbm, 307, rfl⟩
abbrev main_call0_v29 : Ref sig .tc := ⟨.hbm, 308, rfl⟩
abbrev main_call0_v30 : Ref sig .tc := ⟨.hbm, 309, rfl⟩
abbrev main_call0_v31 : Ref sig .tc := ⟨.hbm, 310, rfl⟩
abbrev main_call0_v32 : Ref sig .tc := ⟨.hbm, 311, rfl⟩
abbrev main_call0_v33 : Ref sig .tc := ⟨.hbm, 312, rfl⟩
abbrev main_v36 : Ref sig .tc := ⟨.hbm, 313, rfl⟩
abbrev main_cst_9 : Ref sig .tc := ⟨.hbm, 314, rfl⟩
abbrev main_v37 : Ref sig .tc := ⟨.hbm, 315, rfl⟩
abbrev main_v38 : Ref sig .tc := ⟨.hbm, 316, rfl⟩
abbrev main_v39 : Ref sig .tc := ⟨.hbm, 317, rfl⟩
abbrev main_v40 : Ref sig .tc := ⟨.hbm, 318, rfl⟩
abbrev main_v41 : Ref sig .tc := ⟨.hbm, 319, rfl⟩
abbrev main_v42 : Ref sig .tc := ⟨.hbm, 320, rfl⟩
abbrev main_v43 : Ref sig .tc := ⟨.hbm, 321, rfl⟩
abbrev main_v44 : Ref sig .tc := ⟨.hbm, 322, rfl⟩
abbrev main_v45 : Ref sig .tc := ⟨.hbm, 323, rfl⟩
abbrev main_v46 : Ref sig .tc := ⟨.hbm, 324, rfl⟩
abbrev main_cst_10 : Ref sig .tc := ⟨.hbm, 325, rfl⟩
abbrev main_v47 : Ref sig .tc := ⟨.hbm, 326, rfl⟩
abbrev main_v48 : Ref sig .tc := ⟨.hbm, 327, rfl⟩
abbrev main_v49 : Ref sig .tc := ⟨.hbm, 328, rfl⟩
abbrev main_cst_11 : Ref sig .tc := ⟨.hbm, 329, rfl⟩
abbrev main_v50 : Ref sig .tc := ⟨.hbm, 330, rfl⟩
abbrev main_v51 : Ref sig .tc := ⟨.hbm, 331, rfl⟩
abbrev main_v52 : Ref sig .tc := ⟨.hbm, 332, rfl⟩
abbrev main_v53 : Ref sig .tc := ⟨.hbm, 333, rfl⟩
abbrev main_v54 : Ref sig .tc := ⟨.hbm, 334, rfl⟩
abbrev main_cst_12 : Ref sig .tc := ⟨.hbm, 335, rfl⟩
abbrev main_v55 : Ref sig .tc := ⟨.hbm, 336, rfl⟩
abbrev main_v56 : Ref sig .tc := ⟨.hbm, 337, rfl⟩
abbrev main_values_13 : Ref sig .tc := ⟨.hbm, 338, rfl⟩
abbrev main_indices_14 : Ref sig .tc := ⟨.hbm, 339, rfl⟩
abbrev main_v57 : Ref sig .tc := ⟨.hbm, 340, rfl⟩
abbrev main_call1_c : Ref sig .tc := ⟨.hbm, 341, rfl⟩
abbrev main_call1_v0 : Ref sig .tc := ⟨.hbm, 342, rfl⟩
abbrev main_call1_v1 : Ref sig .tc := ⟨.hbm, 343, rfl⟩
abbrev main_call1_c_0 : Ref sig .tc := ⟨.hbm, 344, rfl⟩
abbrev main_call1_v2 : Ref sig .tc := ⟨.hbm, 345, rfl⟩
abbrev main_call1_v3 : Ref sig .tc := ⟨.hbm, 346, rfl⟩
abbrev main_call1_v4 : Ref sig .tc := ⟨.hbm, 347, rfl⟩
abbrev main_call1_c_1 : Ref sig .tc := ⟨.hbm, 348, rfl⟩
abbrev main_call1_c_2 : Ref sig .tc := ⟨.hbm, 349, rfl⟩
abbrev main_call1_v5 : Ref sig .tc := ⟨.hbm, 350, rfl⟩
abbrev main_call1_v6 : Ref sig .tc := ⟨.hbm, 351, rfl⟩
abbrev main_call1_v7 : Ref sig .tc := ⟨.hbm, 352, rfl⟩
abbrev main_call1_v8 : Ref sig .tc := ⟨.hbm, 353, rfl⟩
abbrev main_call1_v9 : Ref sig .tc := ⟨.hbm, 354, rfl⟩
abbrev main_call1_v10 : Ref sig .tc := ⟨.hbm, 355, rfl⟩
abbrev main_call1_c_3 : Ref sig .tc := ⟨.hbm, 356, rfl⟩
abbrev main_call1_v11 : Ref sig .tc := ⟨.hbm, 357, rfl⟩
abbrev main_call1_v12 : Ref sig .tc := ⟨.hbm, 358, rfl⟩
abbrev main_call1_v13 : Ref sig .tc := ⟨.hbm, 359, rfl⟩
abbrev main_call1_cst : Ref sig .tc := ⟨.hbm, 360, rfl⟩
abbrev main_call1_v14 : Ref sig .tc := ⟨.hbm, 361, rfl⟩
abbrev main_v58 : Ref sig .tc := ⟨.hbm, 362, rfl⟩
abbrev main_call2_v0 : Ref sig .tc := ⟨.hbm, 363, rfl⟩
abbrev main_call2_cst : Ref sig .tc := ⟨.hbm, 364, rfl⟩
abbrev main_call2_c : Ref sig .tc := ⟨.hbm, 365, rfl⟩
abbrev main_call2_v1_0 : Ref sig .tc := ⟨.hbm, 366, rfl⟩
abbrev main_v59 : Ref sig .tc := ⟨.hbm, 367, rfl⟩
abbrev main_v60 : Ref sig .tc := ⟨.hbm, 368, rfl⟩
abbrev main_v61 : Ref sig .tc := ⟨.hbm, 369, rfl⟩
abbrev main_v62 : Ref sig .tc := ⟨.hbm, 370, rfl⟩
abbrev main_v63 : Ref sig .tc := ⟨.hbm, 371, rfl⟩
abbrev main_v64 : Ref sig .tc := ⟨.hbm, 372, rfl⟩
abbrev main_v65 : Ref sig .tc := ⟨.hbm, 373, rfl⟩
abbrev main_v66 : Ref sig .tc := ⟨.hbm, 374, rfl⟩
abbrev main_v67 : Ref sig .tc := ⟨.hbm, 375, rfl⟩
abbrev main_c_15 : Ref sig .tc := ⟨.hbm, 376, rfl⟩
abbrev main_v68 : Ref sig .tc := ⟨.hbm, 377, rfl⟩
abbrev main_v69 : Ref sig .tc := ⟨.hbm, 378, rfl⟩
abbrev main_c_16 : Ref sig .tc := ⟨.hbm, 379, rfl⟩
abbrev main_v70 : Ref sig .tc := ⟨.hbm, 380, rfl⟩
abbrev main_v71 : Ref sig .tc := ⟨.hbm, 381, rfl⟩
abbrev main_v72 : Ref sig .tc := ⟨.hbm, 382, rfl⟩
abbrev main_c_17 : Ref sig .tc := ⟨.hbm, 383, rfl⟩
abbrev main_v73 : Ref sig .tc := ⟨.hbm, 384, rfl⟩
abbrev main_v74 : Ref sig .tc := ⟨.hbm, 385, rfl⟩
abbrev main_c_18 : Ref sig .tc := ⟨.hbm, 386, rfl⟩
abbrev main_v75 : Ref sig .tc := ⟨.hbm, 387, rfl⟩
abbrev main_v76 : Ref sig .tc := ⟨.hbm, 388, rfl⟩
abbrev main_v77 : Ref sig .tc := ⟨.hbm, 389, rfl⟩
abbrev main_v78 : Ref sig .tc := ⟨.hbm, 390, rfl⟩
abbrev main_v79 : Ref sig .tc := ⟨.hbm, 391, rfl⟩
abbrev main_v80 : Ref sig .tc := ⟨.hbm, 392, rfl⟩
abbrev main_v81 : Ref sig .tc := ⟨.hbm, 393, rfl⟩
abbrev main_v82 : Ref sig .tc := ⟨.hbm, 394, rfl⟩
abbrev main_v83 : Ref sig .tc := ⟨.hbm, 395, rfl⟩
abbrev main_c_19 : Ref sig .tc := ⟨.hbm, 396, rfl⟩
abbrev main_v84 : Ref sig .tc := ⟨.hbm, 397, rfl⟩
abbrev main_v85 : Ref sig .tc := ⟨.hbm, 398, rfl⟩
abbrev main_v86 : Ref sig .tc := ⟨.hbm, 399, rfl⟩
abbrev main_v87 : Ref sig .tc := ⟨.hbm, 400, rfl⟩
abbrev main_v88 : Ref sig .tc := ⟨.hbm, 401, rfl⟩
abbrev main_cst_20 : Ref sig .tc := ⟨.hbm, 402, rfl⟩
abbrev main_v89 : Ref sig .tc := ⟨.hbm, 403, rfl⟩
abbrev main_v90 : Ref sig .tc := ⟨.hbm, 404, rfl⟩
abbrev main_c_21 : Ref sig .tc := ⟨.hbm, 405, rfl⟩
abbrev main_v91 : Ref sig .tc := ⟨.hbm, 406, rfl⟩
abbrev main_v92 : Ref sig .tc := ⟨.hbm, 407, rfl⟩
abbrev main_c_22 : Ref sig .tc := ⟨.hbm, 408, rfl⟩
abbrev main_v93 : Ref sig .tc := ⟨.hbm, 409, rfl⟩
abbrev main_v94 : Ref sig .tc := ⟨.hbm, 410, rfl⟩
abbrev main_v95 : Ref sig .tc := ⟨.hbm, 411, rfl⟩
abbrev main_v96 : Ref sig .tc := ⟨.hbm, 412, rfl⟩
abbrev main_v97 : Ref sig .tc := ⟨.hbm, 413, rfl⟩
abbrev main_cst_23 : Ref sig .tc := ⟨.hbm, 414, rfl⟩
abbrev main_v98 : Ref sig .tc := ⟨.hbm, 415, rfl⟩
abbrev main_v99 : Ref sig .tc := ⟨.hbm, 416, rfl⟩
abbrev main_c_24 : Ref sig .tc := ⟨.hbm, 417, rfl⟩
abbrev main_v100 : Ref sig .tc := ⟨.hbm, 418, rfl⟩
abbrev main_v101 : Ref sig .tc := ⟨.hbm, 419, rfl⟩
abbrev main_c_25 : Ref sig .tc := ⟨.hbm, 420, rfl⟩
abbrev main_v102 : Ref sig .tc := ⟨.hbm, 421, rfl⟩
abbrev main_v103 : Ref sig .tc := ⟨.hbm, 422, rfl⟩
abbrev main_v104 : Ref sig .tc := ⟨.hbm, 423, rfl⟩
abbrev main_v105 : Ref sig .tc := ⟨.hbm, 424, rfl⟩
abbrev main_v106 : Ref sig .tc := ⟨.hbm, 425, rfl⟩
abbrev main_v107 : Ref sig .tc := ⟨.hbm, 426, rfl⟩
abbrev main_v108 : Ref sig .tc := ⟨.hbm, 427, rfl⟩
abbrev main_v109 : Ref sig .tc := ⟨.hbm, 428, rfl⟩
abbrev main_v110 : Ref sig .tc := ⟨.hbm, 429, rfl⟩
abbrev main_v111 : Ref sig .tc := ⟨.hbm, 430, rfl⟩
abbrev main_cst_26 : Ref sig .tc := ⟨.hbm, 431, rfl⟩
abbrev main_v112 : Ref sig .tc := ⟨.hbm, 432, rfl⟩
abbrev main_c_27 : Ref sig .tc := ⟨.hbm, 433, rfl⟩
abbrev main_v113 : Ref sig .tc := ⟨.hbm, 434, rfl⟩
abbrev main_v114 : Ref sig .tc := ⟨.hbm, 435, rfl⟩
abbrev main_c_28 : Ref sig .tc := ⟨.hbm, 436, rfl⟩
abbrev main_v115 : Ref sig .tc := ⟨.hbm, 437, rfl⟩
abbrev main_v116 : Ref sig .tc := ⟨.hbm, 438, rfl⟩
abbrev main_v117 : Ref sig .tc := ⟨.hbm, 439, rfl⟩
abbrev main_v118 : Ref sig .tc := ⟨.hbm, 440, rfl⟩
abbrev main_v119 : Ref sig .tc := ⟨.hbm, 441, rfl⟩
abbrev main_v120 : Ref sig .tc := ⟨.hbm, 442, rfl⟩

abbrev nD : Nat := 1
abbrev τ : Topo := Topo.v7x

variable {F : FTy → Type} [FloatOps F]
-- ==== Proof.Body.lean ====
/-
  One grid point of the idealized kernel, run at symbolic contents: the first counted loop's trip, its invariant, and
  the whole body.
-/
module

public import proofs.«01_k».proof.Proof.Gen.KernelIdeal.Loops
public import proofs.«01_k».proof.Proof.Gen.KernelIdeal.Frame
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole loads and stores -/

theorem z2 : (![0, 0] : Fin 2 → Nat) = fun _ => 0 := funext fun a => by fin_cases a <;> rfl
theorem z3 : (![0, 0, 0] : Fin 3 → Nat) = fun _ => 0 := funext fun a => by fin_cases a <;> rfl

section
variable {sp : Space} {s : Shape} {e : EltTy} {m : Memref sig .tc sp s e}

theorem load_whole (h : m.IsWhole) {off : Fin s.rank → Nat} (ho : off = fun _ => 0) (inb : ∀ a, off a + s.size a ≤ s.size a) (X : s.Idx → Elt F e) :
    m.view.readAt (Elt F) (Rect.unit off s.size inb).toLoadRect (h.unread X) = X := by
  rw [View.readAt_eq_ld, h.read_unread, View.ld_unit_zero ho]

theorem load_rect (h : m.IsWhole) (r : Rect s) (X : s.Idx → Elt F e) :
    m.view.readAt (Elt F) r.toLoadRect (h.unread X) = View.ld X r := by
  rw [View.readAt_eq_ld, h.read_unread]

theorem load_cons_whole (v : View sig .tc sp s e) {off : Fin s.rank → Nat} (ho : off = fun _ => 0) (inb : ∀ a, off a + s.size a ≤ s.size a) (X : s.Idx → Elt F e) (L : List (View.Piece (Elt F) s e)) :
    v.readCov (⟨Rect.unit off s.size inb, X⟩ :: L) (Rect.unit off s.size inb).toLoadRect = X := by
  rw [View.readCov_eq_canon_ld _ _ _ (fun y => ⟨_, List.mem_cons_self, by
    subst ho; show y ∈ (Rect.whole s).set; rw [Rect.set_whole]; exact Finset.mem_univ y⟩), View.canon_cons_unit_zero ho, View.ld_unit_zero ho]

theorem load_cover (v : View sig .tc sp s e) {off : Fin s.rank → Nat} (ho : off = fun _ => 0) (inb : ∀ a, off a + s.size a ≤ s.size a) (L : List (View.Piece (Elt F) s e)) (hL : ∀ y, ∃ p ∈ L, y ∈ p.1.set) :
    v.readCov L (Rect.unit off s.size inb).toLoadRect = View.canon L := by
  rw [View.readCov_eq_canon_ld _ _ _ hL, View.ld_unit_zero ho]

theorem store_whole (h : m.IsWhole) {off : Fin s.rank → Nat} (ho : off = fun _ => 0) (inb : ∀ a, off a + s.size a ≤ s.size a) (f : m.view.ty.Contents (Elt F)) (X : s.Idx → Elt F e) (L : List (View.Piece (Elt F) s e)) :
    m.view.writes (Elt F) f (⟨Rect.unit off s.size inb, X⟩ :: L) = h.unread X := by
  apply h.eq_unread
  rw [View.read_writes_eq_canon _ _ _ (fun y => ⟨_, List.mem_cons_self, by
    subst ho; show y ∈ (Rect.whole s).set; rw [Rect.set_whole]; exact Finset.mem_univ y⟩), View.canon_cons_unit_zero ho]
end

/-! ## The two loops with stores, as lists of pieces -/

/-- The rows of a chunk: of the squared norms (or densities), -/
abbrev rows1 (S : Vec F S1568x1 .f32) (k : Fin k0_t1_loop.trips) : Vec F S224x1 .f32 :=
  View.ld S (Rect.unit (s := S1568x1) (k0_off1 k) S224x1.size (k0_off1_inb k))

/-- and of the inner products. -/
abbrev rows2 (D : Vec F S1568x1568 .f32) (k : Fin k0_t1_loop.trips) : Vec F S224x1568 .f32 :=
  View.ld D (Rect.unit (s := S1568x1568) (k0_off2 k) S224x1568.size (k0_off2_inb k))

abbrev rows3 (S : Vec F S1568x1 .f32) (k : Fin k0_t3_loop.trips) : Vec F S224x1 .f32 :=
  View.ld S (Rect.unit (s := S1568x1) (k0_off3 k) S224x1.size (k0_off3_inb k))

abbrev rows4 (D : Vec F S1568x1568 .f32) (k : Fin k0_t3_loop.trips) : Vec F S224x1568 .f32 :=
  View.ld D (Rect.unit (s := S1568x1568) (k0_off4 k) S224x1568.size (k0_off4_inb k))

/-- The nine rounds over a chunk. -/
def rounds (x : Vec F S1x1568x384 .f32) (s : Vec F S224x1 .f32) (d : Vec F S224x1568 .f32) : FVec F S224x1568 .f32 × FVec F S224x1 .f32 :=
  Scf.fold (fun (_ : Fin k0_t2_loop.trips) (a : FVec F S224x1568 .f32 × FVec F S224x1 .f32) => (k0_pay12 a.1, k0_pay11 a.1 a.2)) (k0_pay7 x s d, k0_pay9)

/-- The piece trip `k` of the first loop writes: its chunk's densities. -/
def piece1 (x : Vec F S1x1568x384 .f32) (S : Vec F S1568x1 .f32) (D : Vec F S1568x1568 .f32) (k : Fin k0_t1_loop.trips) : View.Piece (Elt F) S1568x1 .f32 :=
  ⟨Rect.unit (s := S1568x1) (k0_off1 k) S224x1.size (k0_off1_inb k), k0_pay13 (rounds x (rows1 S k) (rows2 D k)).2⟩

/-- The pieces of the trips before `k`, last first. -/
def pb1 (x : Vec F S1x1568x384 .f32) (S : Vec F S1568x1 .f32) (D : Vec F S1568x1568 .f32) : ℕ → List (View.Piece (Elt F) S1568x1 .f32)
  | 0 => []
  | k + 1 => (if h : k < k0_t1_loop.trips then [piece1 x S D ⟨k, h⟩] else []) ++ pb1 x S D k

theorem pb1_succ (x : Vec F S1x1568x384 .f32) (S : Vec F S1568x1 .f32) (D : Vec F S1568x1568 .f32) (k : Fin k0_t1_loop.trips) :
    pb1 x S D (k.val + 1) = [piece1 x S D k] ++ pb1 x S D k.val := by
  rw [pb1.eq_2, dif_pos k.isLt]

/-- The greatest squared distance carried into trip `k`. -/
def st1 (x : Vec F S1x1568x384 .f32) (S : Vec F S1568x1 .f32) (D : Vec F S1568x1568 .f32) (init : F .f32) : ℕ → F .f32
  | 0 => init
  | k + 1 => if h : k < k0_t1_loop.trips then k0_pay8 x (st1 x S D init k) (rows1 S ⟨k, h⟩) (rows2 D ⟨k, h⟩) else st1 x S D init k

theorem st1_succ (x : Vec F S1x1568x384 .f32) (S : Vec F S1568x1 .f32) (D : Vec F S1568x1568 .f32) (init : F .f32) (k : Fin k0_t1_loop.trips) :
    st1 x S D init (k.val + 1) = k0_pay8 x (st1 x S D init k.val) (rows1 S k) (rows2 D k) := by
  rw [st1.eq_2, dif_pos k.isLt]

/-- The piece trip `k` of the second loop writes: its chunk's scores, as row `k`. -/
def piece3 (v8 : FVec F S1x1568 .f32) (v17 : F .f32) (v27 : FVec F S1x1568 .f32) (S : Vec F S1568x1 .f32) (D : Vec F S1568x1568 .f32) (R : Vec F S1568x1 .f32) (k : Fin k0_t3_loop.trips) : View.Piece (Elt F) S7x224 .f32 :=
  ⟨Rect.unit (s := S7x224) (k0_off5 k) S1x224.size (k0_off5_inb k), k0_pay17 v8 v17 v27 (rows3 S k) (rows4 D k) (rows3 R k)⟩

def pb3 (v8 : FVec F S1x1568 .f32) (v17 : F .f32) (v27 : FVec F S1x1568 .f32) (S : Vec F S1568x1 .f32) (D : Vec F S1568x1568 .f32) (R : Vec F S1568x1 .f32) : ℕ → List (View.Piece (Elt F) S7x224 .f32)
  | 0 => []
  | k + 1 => (if h : k < k0_t3_loop.trips then [piece3 v8 v17 v27 S D R ⟨k, h⟩] else []) ++ pb3 v8 v17 v27 S D R k

theorem pb3_succ (v8 : FVec F S1x1568 .f32) (v17 : F .f32) (v27 : FVec F S1x1568 .f32) (S : Vec F S1568x1 .f32) (D : Vec F S1568x1568 .f32) (R : Vec F S1568x1 .f32) (k : Fin k0_t3_loop.trips) :
    pb3 v8 v17 v27 S D R (k.val + 1) = [piece3 v8 v17 v27 S D R k] ++ pb3 v8 v17 v27 S D R k.val := by
  rw [pb3.eq_2, dif_pos k.isLt]

theorem cover1 (x : Vec F S1x1568x384 .f32) (S : Vec F S1568x1 .f32) (D : Vec F S1568x1568 .f32) : ∀ y : S1568x1.Idx, ∃ p ∈ pb1 x S D k0_t1_loop.trips, y ∈ p.1.set :=
  View.cover_of_tiledL _ S224x1.size (by sl_kernel_rfl)

theorem cover3 (v8 : FVec F S1x1568 .f32) (v17 : F .f32) (v27 : FVec F S1x1568 .f32) (S : Vec F S1568x1 .f32) (D : Vec F S1568x1568 .f32) (R : Vec F S1568x1 .f32) : ∀ y : S7x224.Idx, ∃ p ∈ pb3 v8 v17 v27 S D R k0_t3_loop.trips, y ∈ p.1.set :=
  View.cover_of_tiledL _ S1x224.size (by sl_kernel_rfl)

/-! ## What a grid point computes -/

/-- The greatest squared distance, -/
def dmax2 (x : Vec F S1x1568x384 .f32) : F .f32 := st1 x (k0_pay4 x) (k0_pay6 x) (Scalar.ofBits .f32 0xFF800000#32) k0_t1_loop.trips
/-- the densities before the noise, -/
def dens0 (x : Vec F S1x1568x384 .f32) : Vec F S1568x1 .f32 := View.canon (pb1 x (k0_pay4 x) (k0_pay6 x) k0_t1_loop.trips)
/-- the densities, -/
def dens (x : Vec F S1x1568x384 .f32) (nz : Vec F S1x1x1568 .f32) : Vec F S1568x1 .f32 := k0_pay15 (dens0 x) nz
/-- the scores, -/
def score (x : Vec F S1x1568x384 .f32) (nz : Vec F S1x1x1568 .f32) : Vec F S7x224 .f32 :=
  View.canon (pb3 (k0_pay5 x) (k0_pay14 (dmax2 x)) (k0_pay16 (dens x nz)) (k0_pay4 x) (k0_pay6 x) (dens x nz) k0_t3_loop.trips)
/-- the rank of every token among the chosen ones, -/
def ranks (x : Vec F S1x1568x384 .f32) (nz : Vec F S1x1x1568 .f32) : IVec S1x1568 32 :=
  (Scf.fold (fun (k : Fin k0_t4_loop.trips) (a : Vec F S7x224 .f32 × IVec S1x1568 32) => (k0_pay21 a.1, k0_pay20 k a.1 a.2)) (score x nz, k0_pay19)).2
/-- every token's cluster, -/
def clus (x : Vec F S1x1568x384 .f32) (nz : Vec F S1x1x1568 .f32) : IVec S1x1568 32 :=
  k0_pay22 (k0_pay5 x) (ranks x nz) (k0_pay6 x) (k0_pay4 x)
/-- and the block written. -/
def out (x : Vec F S1x1568x384 .f32) (w : Vec F S1x384 .f32) (b : Vec F S1x1 .f32) (nz : Vec F S1x1x1568 .f32) : Vec F S1x196x384 .f32 :=
  k0_pay1 (k0_pay2 x) (ranks x nz) (iota .tc S196x1568 32 [0] iota_S196x1568_d0_w32) (clus x nz) w b

section
variable (𝒱 : Variants) (c : Dev nD) (bd : Option 𝒱.V) (i : grid0.Coords) (arg1 : Memref sig .tc .vmem S1x1568x384 .f32) (harg1 : arg1.IsWhole) (arg2 : Memref sig .tc .vmem S1x384 .f32) (harg2 : arg2.IsWhole) (arg3 : Memref sig .tc .vmem S1x1 .f32) (harg3 : arg3.IsWhole) (arg4 : Memref sig .tc .vmem S1x1x1568 .f32) (harg4 : arg4.IsWhole) (arg5 : Memref sig .tc .vmem S1x196x384 .f32) (harg5 : arg5.IsWhole) (arg6 : Memref sig .tc .vmem S1568x1568 .f32) (harg6 : arg6.IsWhole) (arg7 : Memref sig .tc .vmem S1568x1 .f32) (harg7 : arg7.IsWhole) (arg8 : Memref sig .tc .vmem S1568x1 .f32) (harg8 : arg8.IsWhole) (arg9 : Memref sig .tc .vmem S7x224 .f32) (harg9 : arg9.IsWhole)

/-- What a trip of the first loop touches: the inner products and the squared norms at their contents, the densities at
    any. -/
abbrev Trip1 (S : Vec F S1568x1 .f32) (D : Vec F S1568x1568 .f32) (f8 : BufTy.Contents (Elt F) arg8.view.ty) : sProp 𝕄 :=
  iprop((arg6.view.loc (c : Thread nD τ) ↦[arg6.view.set]{fullShare} harg6.unread D) ∗ (arg7.view.loc (c : Thread nD τ) ↦[arg7.view.set]{fullShare} harg7.unread S) ∗ (arg8.view.loc (c : Thread nD τ) ↦[arg8.view.set]{fullShare} f8))

/-- One trip at a symbolic `k`. -/
theorem trip1 (x : Vec F S1x1568x384 .f32) (S : Vec F S1568x1 .f32) (D : Vec F S1568x1568 .f32) (k : Fin k0_t1_loop.trips) (E : Set ℕ) (acc : F .f32) (f8 : BufTy.Contents (Elt F) arg8.view.ty) :
    Trip1 (F := F) c arg6 harg6 arg7 harg7 arg8 S D f8
    ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 x k acc)
        (fun y => iprop(Trip1 (F := F) c arg6 harg6 arg7 harg7 arg8 S D (arg8.view.writes (Elt F) f8 [piece1 x S D k]) ∗ ⌜y = k0_pay8 x acc (rows1 S k) (rows2 D k)⌝)) := by
  have hk : k.val < 7 := Nat.lt_of_lt_of_le k.isLt k0_t1_abs.2.1
  unfold k0_t1_body
  iintro ⟨H6, H7, H8⟩
  sl_exec
  sl_step
  sl_unfold_words
  rw [load_rect harg6, load_rect harg7]
  isplitl [H6 H7 H8]
  · isplitl [H6]; · iexact H6
    isplitl [H7]; · iexact H7
    iexact H8
  · ipureintro; rfl

set_option warn.classDefReducibility false in
/-- The first loop by its invariant. -/
def loopInv1 (E : Set ℕ) (x : Vec F S1x1568x384 .f32) (init : F .f32) (S : Vec F S1568x1 .f32) (D : Vec F S1568x1568 .f32) (G8 : BufTy.Contents (Elt F) arg8.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 x init where
  inv k acc := iprop((arg6.view.loc (c : Thread nD τ) ↦[arg6.view.set]{fullShare} harg6.unread D) ∗ (arg7.view.loc (c : Thread nD τ) ↦[arg7.view.set]{fullShare} harg7.unread S) ∗ (∃ f, (arg8.view.loc (c : Thread nD τ) ↦[arg8.view.set]{fullShare} f) ∗ ⌜f = arg8.view.writes (Elt F) G8 (pb1 x S D k)⌝) ∗ ⌜acc = st1 x S D init k⌝)
  step k acc := by
    iintro ⟨H6, H7, ⟨%f8, H8, %h8⟩, %hacc⟩
    iapply (wp_wand_r Idealize.ShloMosaic.frame (wpE (defs₀ (F := F)) 𝒱 (c : Thread nD τ) bd) E)
    isplitl [H6 H7 H8]
    · iapply (trip1 (F := F) 𝒱 c bd i arg1 harg1 arg2 harg2 arg3 harg3 arg4 harg4 arg5 harg5 arg6 harg6 arg7 harg7 arg8 harg8 arg9 harg9 x S D k E acc f8)
      isplitl [H6]; · iexact H6
      isplitl [H7]; · iexact H7
      iexact H8
    · iintro %y ⟨⟨H6, H7, H8⟩, %hy⟩
      isplitl [H6]; · iexact H6
      isplitl [H7]; · iexact H7
      rw [pb1_succ, st1_succ]
      isplitl [H8]
      · iexists _; isplitl [H8]; · iexact H8
        ipureintro; rw [h8, ← View.writes_append]
      · ipureintro; rw [hy, hacc]

/-- The first part of the body, from the staged inputs. -/
theorem part1_run (E : Set ℕ) (x : Vec F S1x1568x384 .f32) (nz : Vec F S1x1x1568 .f32) :
    iprop(owns (c : Thread nD τ) arg1 fullShare x ∗ owns (c : Thread nD τ) arg4 fullShare nz ∗ (∃ d, owns (c : Thread nD τ) arg6 fullShare d) ∗ (∃ d, owns (c : Thread nD τ) arg7 fullShare d) ∗ (∃ d, owns (c : Thread nD τ) arg8 fullShare d))
    ⊢ wp frame (wpE (defs₀ (F := F)) 𝒱 (c : Thread nD τ) bd) E (k0_part1 (F := F) i arg1 harg1 arg2 harg2 arg3 harg3 arg4 harg4 arg5 harg5 arg6 harg6 arg7 harg7 arg8 harg8 arg9 harg9)
      (fun y => (iprop((owns (c : Thread nD τ) arg1 fullShare x ∗ owns (c : Thread nD τ) arg4 fullShare nz ∗ owns (c : Thread nD τ) arg6 fullShare (k0_pay6 x) ∗ owns (c : Thread nD τ) arg7 fullShare (k0_pay4 x) ∗ owns (c : Thread nD τ) arg8 fullShare (dens x nz))
        ∗ ⌜y = ⟨k0_pay2 x, k0_pay5 x, k0_pay14 (dmax2 x), k0_pay16 (dens x nz), 0#32, 1#32⟩⌝) : sProp 𝕄)) := by
  rw [k0_part1_eq_skeleton]
  unfold k0_part1_skel owns
  iintro ⟨⟨%f1, %hf1, H1⟩, ⟨%f4, %hf4, H4⟩, ⟨%d6, %f6, -, H6⟩, ⟨%d7, %f7, -, H7⟩, ⟨%d8, %f8, -, H8⟩⟩
  obtain rfl := harg1.eq_unread hf1
  obtain rfl := harg4.eq_unread hf4
  have hc : ∀ (f : arg8.view.ty.Contents (Elt F)), arg8.view.readAt (Elt F) (Rect.unit (s := S1568x1) ![0, 0] S1568x1.size inb_S1568x1_S1568x1_0_0).toLoadRect (arg8.view.writes (Elt F) f (pb1 x (k0_pay4 x) (k0_pay6 x) k0_t1_loop.trips)) = arg8.view.readCov (pb1 x (k0_pay4 x) (k0_pay6 x) k0_t1_loop.trips) (Rect.unit (s := S1568x1) ![0, 0] S1568x1.size inb_S1568x1_S1568x1_0_0).toLoadRect := fun f =>
    View.readAt_writes_of_cover _ f _ _ (fun j => cover1 x _ _ _)
  sl_exec
  sl_unfold_words
  simp only [load_whole harg1 z3, store_whole harg6 z2, store_whole harg7 z2]
  let I := loopInv1 (F := F) 𝒱 c bd i arg1 harg1 arg2 harg2 arg3 harg3 arg4 harg4 arg5 harg5 arg6 harg6 arg7 harg7 arg8 harg8 arg9 harg9 E x (Scalar.ofBits .f32 0xFF800000#32) (k0_pay4 x) (k0_pay6 x) f8
  sl_exec
  sl_step
  sl_unfold_words
  have e1 : arg8.view.readCov (pb1 x (k0_pay4 x) (k0_pay6 x) (Scf.trips (0#32) (Scalar.addi 0#32 7#32) 1#32)) (Rect.unit (s := S1568x1) ![0, 0] S1568x1.size inb_S1568x1_S1568x1_0_0).toLoadRect = dens0 x :=
    load_cover _ z2 _ _ (cover1 x _ _)
  simp only [load_whole harg4 z3, store_whole harg8 z2]
  rw [load_cons_whole arg8.view z2, e1]
  isplitl
  · isplitl [H1]
    · iexists _; isplitr; swap; · iexact H1
      ipureintro; exact hf1
    isplitl [H4]
    · iexists _; isplitr; swap; · iexact H4
      ipureintro; exact hf4
    isplitl [H6]
    · iexists _; isplitr; swap; · iexact H6
      ipureintro; exact harg6.read_unread _
    isplitl [H7]
    · iexists _; isplitr; swap; · iexact H7
      ipureintro; exact harg7.read_unread _
    · iexists _; isplitr; swap; · iexact H8
      ipureintro; exact harg8.read_unread _
  · ipureintro; rfl

theorem trip3_eq (v8 : FVec F S1x1568 .f32) (v17 : F .f32) (v27 : FVec F S1x1568 .f32) (S : Vec F S1568x1 .f32) (D : Vec F S1568x1568 .f32) (R : Vec F S1568x1 .f32) (k : Fin k0_t3_loop.trips) :
    tripL_k0_t3 (F := F) 𝒱 c bd i arg1 harg1 arg2 harg2 arg3 harg3 arg4 harg4 arg5 harg5 arg6 harg6 arg7 harg7 arg8 harg8 arg9 harg9 v8 v17 v27 0#32 1#32 (harg6.unread D) (harg7.unread S) (harg8.unread R) k
      = [piece3 v8 v17 v27 S D R k] := by
  unfold tripL_k0_t3 trip_k0_t3
  dsimp only
  sl_unfold_words
  rw [load_rect harg6, load_rect harg7, load_rect harg8]
  rfl

theorem pb3_eq (v8 : FVec F S1x1568 .f32) (v17 : F .f32) (v27 : FVec F S1x1568 .f32) (S : Vec F S1568x1 .f32) (D : Vec F S1568x1568 .f32) (R : Vec F S1568x1 .f32) (k : ℕ) (hk : k ≤ k0_t3_loop.trips) :
    pb_k0_t3 (F := F) 𝒱 c bd i arg1 harg1 arg2 harg2 arg3 harg3 arg4 harg4 arg5 harg5 arg6 harg6 arg7 harg7 arg8 harg8 arg9 harg9 v8 v17 v27 0#32 1#32 (harg6.unread D) (harg7.unread S) (harg8.unread R) k
      = pb3 v8 v17 v27 S D R k := by
  induction k with
  | zero => rfl
  | succ k ih =>
    have h1 := pb_k0_t3_succ (F := F) 𝒱 c bd i arg1 harg1 arg2 harg2 arg3 harg3 arg4 harg4 arg5 harg5 arg6 harg6 arg7 harg7 arg8 harg8 arg9 harg9 v8 v17 v27 0#32 1#32 (harg6.unread D) (harg7.unread S) (harg8.unread R) ⟨k, hk⟩
    have h2 := pb3_succ v8 v17 v27 S D R ⟨k, hk⟩
    dsimp only at h1 h2
    rw [h1, h2, ih (by omega), trip3_eq]

/-- The second part. -/
theorem part2_run (E : Set ℕ) (v8 : FVec F S1x1568 .f32) (v17 : F .f32) (v27 : FVec F S1x1568 .f32) (S : Vec F S1568x1 .f32) (D : Vec F S1568x1568 .f32) (R : Vec F S1568x1 .f32) :
    iprop(owns (c : Thread nD τ) arg6 fullShare D ∗ owns (c : Thread nD τ) arg7 fullShare S ∗ owns (c : Thread nD τ) arg8 fullShare R ∗ (∃ d, owns (c : Thread nD τ) arg9 fullShare d))
    ⊢ wp frame (wpE (defs₀ (F := F)) 𝒱 (c : Thread nD τ) bd) E (k0_part2 (F := F) i arg1 harg1 arg2 harg2 arg3 harg3 arg4 harg4 arg5 harg5 arg6 harg6 arg7 harg7 arg8 harg8 arg9 harg9 v8 v17 v27 0#32 1#32)
      (fun y => (iprop((owns (c : Thread nD τ) arg6 fullShare D ∗ owns (c : Thread nD τ) arg7 fullShare S ∗ owns (c : Thread nD τ) arg8 fullShare R ∗ (∃ d, owns (c : Thread nD τ) arg9 fullShare d))
        ∗ ⌜y = ⟨(Scf.fold (fun (k : Fin k0_t4_loop.trips) (a : Vec F S7x224 .f32 × IVec S1x1568 32) => (k0_pay21 a.1, k0_pay20 k a.1 a.2)) (View.canon (pb3 v8 v17 v27 S D R k0_t3_loop.trips), k0_pay19)).2, iota .tc S196x1568 32 [0] iota_S196x1568_d0_w32,
            k0_pay22 v8 (Scf.fold (fun (k : Fin k0_t4_loop.trips) (a : Vec F S7x224 .f32 × IVec S1x1568 32) => (k0_pay21 a.1, k0_pay20 k a.1 a.2)) (View.canon (pb3 v8 v17 v27 S D R k0_t3_loop.trips), k0_pay19)).2 D S⟩⌝) : sProp 𝕄)) := by
  rw [k0_part2_eq_skeleton]
  unfold k0_part2_skel owns
  iintro ⟨⟨%f6, %hf6, H6⟩, ⟨%f7, %hf7, H7⟩, ⟨%f8, %hf8, H8⟩, ⟨%d9, %f9, -, H9⟩⟩
  obtain rfl := harg6.eq_unread hf6
  obtain rfl := harg7.eq_unread hf7
  obtain rfl := harg8.eq_unread hf8
  have e3 := pb3_eq (F := F) 𝒱 c bd i arg1 harg1 arg2 harg2 arg3 harg3 arg4 harg4 arg5 harg5 arg6 harg6 arg7 harg7 arg8 harg8 arg9 harg9 v8 v17 v27 S D R k0_t3_loop.trips le_rfl
  have hc : ∀ (f : arg9.view.ty.Contents (Elt F)), arg9.view.readAt (Elt F) (Rect.unit (s := S7x224) ![0, 0] S7x224.size inb_S7x224_S7x224_0_0).toLoadRect (arg9.view.writes (Elt F) f (pb_k0_t3 (F := F) 𝒱 c bd i arg1 harg1 arg2 harg2 arg3 harg3 arg4 harg4 arg5 harg5 arg6 harg6 arg7 harg7 arg8 harg8 arg9 harg9 v8 v17 v27 0#32 1#32 (harg6.unread D) (harg7.unread S) (harg8.unread R) k0_t3_loop.trips)) = arg9.view.readCov (pb_k0_t3 (F := F) 𝒱 c bd i arg1 harg1 arg2 harg2 arg3 harg3 arg4 harg4 arg5 harg5 arg6 harg6 arg7 harg7 arg8 harg8 arg9 harg9 v8 v17 v27 0#32 1#32 (harg6.unread D) (harg7.unread S) (harg8.unread R) k0_t3_loop.trips) (Rect.unit (s := S7x224) ![0, 0] S7x224.size inb_S7x224_S7x224_0_0).toLoadRect := fun f => by
    rw [e3]; exact View.readAt_writes_of_cover _ f _ _ (fun j => cover3 v8 v17 v27 S D R _)
  sl_exec
  sl_step
  sl_unfold_words
  have e1 : arg9.view.readCov (pb3 v8 v17 v27 S D R k0_t3_loop.trips) (Rect.unit (s := S7x224) ![0, 0] S7x224.size inb_S7x224_S7x224_0_0).toLoadRect = View.canon (pb3 v8 v17 v27 S D R k0_t3_loop.trips) :=
    load_cover _ z2 _ _ (cover3 v8 v17 v27 S D R)
  simp only [load_whole harg6 z2, load_whole harg7 z2]
  rw [e3, e1]
  isplitl
  · isplitl [H6]
    · iexists _; isplitr; swap; · iexact H6
      ipureintro; exact harg6.read_unread _
    isplitl [H7]
    · iexists _; isplitr; swap; · iexact H7
      ipureintro; exact harg7.read_unread _
    isplitl [H8]
    · iexists _; isplitr; swap; · iexact H8
      ipureintro; exact harg8.read_unread _
    · iexists _, _; isplitr; swap; · iexact H9
      ipureintro; rfl
  · ipureintro; rfl

/-- The whole body at any memrefs: the inputs stay, the output's block is `out`. -/
theorem body_run (E : Set ℕ) (x : Vec F S1x1568x384 .f32) (w : Vec F S1x384 .f32) (b : Vec F S1x1 .f32) (nz : Vec F S1x1x1568 .f32) :
    iprop(owns (c : Thread nD τ) arg1 fullShare x ∗ owns (c : Thread nD τ) arg2 fullShare w ∗ owns (c : Thread nD τ) arg3 fullShare b ∗ owns (c : Thread nD τ) arg4 fullShare nz ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d))
    ⊢ wp frame (wpE (defs₀ (F := F)) 𝒱 (c : Thread nD τ) bd) E (cc0__ctm_kernel (F := F) i arg1 harg1 arg2 harg2 arg3 harg3 arg4 harg4 arg5 harg5 arg6 harg6 arg7 harg7 arg8 harg8 arg9 harg9)
      (fun _ => (iprop(owns (c : Thread nD τ) arg1 fullShare x ∗ owns (c : Thread nD τ) arg2 fullShare w ∗ owns (c : Thread nD τ) arg3 fullShare b ∗ owns (c : Thread nD τ) arg4 fullShare nz ∗ owns (c : Thread nD τ) arg5 fullShare (out x w b nz) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) : sProp 𝕄)) := by
  rw [cc0__ctm_kernel_eq_skeleton]
  unfold cc0__ctm_kernel_skel
  iintro ⟨H1, H2, H3, H4, H5, H6, H7, H8, H9⟩
  rw [wp_bind]
  iapply (wp_wand_r Idealize.ShloMosaic.frame (wpE (defs₀ (F := F)) 𝒱 (c : Thread nD τ) bd) E)
  isplitl [H1 H4 H6 H7 H8]
  · iapply (part1_run (F := F) 𝒱 c bd i arg1 harg1 arg2 harg2 arg3 harg3 arg4 harg4 arg5 harg5 arg6 harg6 arg7 harg7 arg8 harg8 arg9 harg9 E x nz)
    isplitl [H1]; · iexact H1
    isplitl [H4]; · iexact H4
    isplitl [H6]; · iexact H6
    isplitl [H7]; · iexact H7
    iexact H8
  iintro %y ⟨⟨H1, H4, H6, H7, H8⟩, %hy⟩
  subst hy
  dsimp only
  rw [wp_bind]
  iapply (wp_wand_r Idealize.ShloMosaic.frame (wpE (defs₀ (F := F)) 𝒱 (c : Thread nD τ) bd) E)
  isplitl [H6 H7 H8 H9]
  · iapply (part2_run (F := F) 𝒱 c bd i arg1 harg1 arg2 harg2 arg3 harg3 arg4 harg4 arg5 harg5 arg6 harg6 arg7 harg7 arg8 harg8 arg9 harg9 E (k0_pay5 x) (k0_pay14 (dmax2 x)) (k0_pay16 (dens x nz)) (k0_pay4 x) (k0_pay6 x) (dens x nz))
    isplitl [H6]; · iexact H6
    isplitl [H7]; · iexact H7
    isplitl [H8]; · iexact H8
    iexact H9
  iintro %y ⟨⟨H6, H7, H8, H9⟩, %hy⟩
  subst hy
  dsimp only
  unfold owns
  icases H2 with ⟨%f2, %hf2, H2⟩
  icases H3 with ⟨%f3, %hf3, H3⟩
  icases H5 with ⟨%d5, %f5, -, H5⟩
  obtain rfl := harg2.eq_unread hf2
  obtain rfl := harg3.eq_unread hf3
  sl_exec
  sl_step
  sl_unfold_words
  simp only [load_whole harg2 z2, load_whole harg3 z2, store_whole harg5 z3]
  isplitl [H1]; · iexact H1
  isplitl [H2]
  · iexists _; isplitr; swap; · iexact H2
    ipureintro; exact hf2
  isplitl [H3]
  · iexists _; isplitr; swap; · iexact H3
    ipureintro; exact hf3
  isplitl [H4]; · iexact H4
  isplitl [H5]
  · iexists _; isplitr; swap; · iexact H5
    ipureintro; exact harg5.read_unread _
  isplitl [H6]; · iexists _; iexact H6
  isplitl [H7]; · iexists _; iexact H7
  isplitl [H8]; · iexists _; iexact H8
  iexact H9

end
end Cert.KernelIdeal.Body
end
-- ==== Proof.Launched.lean ====
/-
  The launch of the idealized kernel: the pipeline's proof data over the body of Body.lean, the run, and the frame.
-/
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four scratch buffers, as the body is handed them. -/
abbrev sc0 : Memref sig .tc .vmem S1568x1568 .f32 := Memref.whole cc0_scratch0
abbrev sc1 : Memref sig .tc .vmem S1568x1 .f32 := Memref.whole cc0_scratch1
abbrev sc2 : Memref sig .tc .vmem S1568x1 .f32 := Memref.whole cc0_scratch2
abbrev sc3 : Memref sig .tc .vmem S7x224 .f32 := Memref.whole cc0_scratch3

/-- Between points: the scratch at any contents, and the generator register. -/
theorem phi_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The block point `t` leaves. -/
def outAt (c : Dev nD) (t : Fin cfg0.N) : Vec F S1x196x384 .f32 :=
  out (iblk m c 0 t) (iblk m c 1 t) (iblk m c 2 t) (iblk m c 3 t)

/-- The pipeline's proof data: every input block stays, the output's is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

theorem before_0 (c : Dev nD) (t : Fin cfg0.N) (d) : (dats m 0 c).before 0 t d = iblk m c 0 t := before0_0_of m (dats m 0 c) (dats_A m c 0) (after_0 m c) t d
theorem before_1 (c : Dev nD) (t : Fin cfg0.N) (d) : (dats m 0 c).before 1 t d = iblk m c 1 t := before0_1_of m (dats m 0 c) (dats_A m c 1) (after_1 m c) t d
theorem before_2 (c : Dev nD) (t : Fin cfg0.N) (d) : (dats m 0 c).before 2 t d = iblk m c 2 t := before0_2_of m (dats m 0 c) (dats_A m c 2) (after_2 m c) t d
theorem before_3 (c : Dev nD) (t : Fin cfg0.N) (d) : (dats m 0 c).before 3 t d = iblk m c 3 t := before0_3_of m (dats m 0 c) (dats_A m c 3) (after_3 m c) t d

/-- What the body is called with at point `t`, window by window, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))

/-- and what it returns. -/
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, phi_eq]
  unfold outAt
  iintro ⟨⟨⟨HS0, HS1, HS2, HS3⟩, Hg⟩, Ho, ⟨%d0, H0⟩, ⟨%d1, H1⟩, ⟨%d2, H2⟩, ⟨%d3, H3⟩, ⟨%d4, H4⟩⟩
  iapply (wp_wand_r Idealize.ShloMosaic.frame (wpE (defs₀ (F := F)) Variants.none (c : Thread nD τ) none) Set.univ)
  isplitl [HS0 HS1 HS2 HS3 H0 H1 H2 H3 H4]
  · iapply (body_run (F := F) Variants.none c none (grid0.coords t) _ _ _ _ _ _ _ _ _ _ _ _ _ _ _ _ _ _ Set.univ (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [HS2]; · iexact HS2
    iexact HS3
  iintro %_ ⟨H0, H1, H2, H3, H4, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  iexact H4

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

set_option backward.isDefEq.respectTransparency.types false in
/-- The launch: every final state has the pipeline's arrays at what the proof data say, every other buffer as the
    region found it, and the counters at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m) (hΦ := fun _ _ => rfl)

/-- The frame: the arguments end unchanged, the counters at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.KernelIdeal.Body

end
-- ==== Proof.RefRun.lean ====
module

public import proofs.«01_k».proof.ReferenceIdeal
public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.Tactic
open Idealize.SL.Sem
variable {F : FTy → Type} [FloatOps F]

theorem isSeq_last {nD : Nat} {τ : Topo} {sig : RefSig} {Val : EltTy → Type} {Λ : Labels} {op : HloOp τ sig Val} :
    StableHlo.IsSeq (nD := nD) (Λ := Λ) (hlo rfl op fun _ => .ret (⟨⟩ : PUnit)) [op] := rfl

theorem isSeq_append {nD : Nat} {τ : Topo} {sig : RefSig} {Val : EltTy → Type} {Λ : Labels}
    {p k : Prog (TpuEff nD τ sig Val Λ .tc) PUnit} {a b : List (HloOp τ sig Val)}
    (hp : StableHlo.IsSeq p a) (hk : StableHlo.IsSeq k b) : StableHlo.IsSeq (p >>= fun _ => k) (a ++ b) := by
  unfold StableHlo.IsSeq at *
  rw [hp, hk, StableHlo.seq_append]

def tf0 (a0 a1 : StableHlo.TRef sig ⟨S_, .i32⟩) (a2 a3 : StableHlo.TRef sig ⟨S8x1568, .i32⟩) (φ : fn_threefry2x32.Bufs) : { ops : List (HloOp τ sig (Elt F)) // StableHlo.IsSeq (fn_threefry2x32.body_part0 (F := F) a0 a1 a2 a3 φ) ops } := by
  apply Subtype.mk
  · unfold fn_threefry2x32.body_part0
    repeat (first | exact StableHlo.IsSeq.nil | exact isSeq_last | apply StableHlo.IsSeq.cons)

def tf1 (a0 a1 : StableHlo.TRef sig ⟨S_, .i32⟩) (a2 a3 : StableHlo.TRef sig ⟨S8x1568, .i32⟩) (φ : fn_threefry2x32.Bufs) : { ops : List (HloOp τ sig (Elt F)) // StableHlo.IsSeq (fn_threefry2x32.body_part1 (F := F) a0 a1 a2 a3 φ) ops } := by
  apply Subtype.mk
  · unfold fn_threefry2x32.body_part1
    repeat (first | exact StableHlo.IsSeq.nil | exact isSeq_last | apply StableHlo.IsSeq.cons)

def tf2 (a0 a1 : StableHlo.TRef sig ⟨S_, .i32⟩) (a2 a3 : StableHlo.TRef sig ⟨S8x1568, .i32⟩) (φ : fn_threefry2x32.Bufs) : { ops : List (HloOp τ sig (Elt F)) // StableHlo.IsSeq (fn_threefry2x32.body_part2 (F := F) a0 a1 a2 a3 φ) ops } := by
  apply Subtype.mk
  · unfold fn_threefry2x32.body_part2
    repeat (first | exact StableHlo.IsSeq.nil | exact isSeq_last | apply StableHlo.IsSeq.cons)

def tf3 (a0 a1 : StableHlo.TRef sig ⟨S_, .i32⟩) (a2 a3 : StableHlo.TRef sig ⟨S8x1568, .i32⟩) (φ : fn_threefry2x32.Bufs) : { ops : List (HloOp τ sig (Elt F)) // StableHlo.IsSeq (fn_threefry2x32.body_part3 (F := F) a0 a1 a2 a3 φ) ops } := by
  apply Subtype.mk
  · unfold fn_threefry2x32.body_part3
    repeat (first | exact StableHlo.IsSeq.nil | exact isSeq_last | apply StableHlo.IsSeq.cons)

def tf (a0 a1 : StableHlo.TRef sig ⟨S_, .i32⟩) (a2 a3 : StableHlo.TRef sig ⟨S8x1568, .i32⟩) (φ : fn_threefry2x32.Bufs) : { ops : List (HloOp τ sig (Elt F)) // StableHlo.IsSeq (fn_threefry2x32.body (F := F) a0 a1 a2 a3 φ) ops } := by
  refine ⟨(tf0 a0 a1 a2 a3 φ).1 ++ ((tf1 a0 a1 a2 a3 φ).1 ++ ((tf2 a0 a1 a2 a3 φ).1 ++ (tf3 a0 a1 a2 a3 φ).1)), ?h⟩
  unfold fn_threefry2x32.body
  exact isSeq_append (tf0 a0 a1 a2 a3 φ).2 (isSeq_append (tf1 a0 a1 a2 a3 φ).2 (isSeq_append (tf2 a0 a1 a2 a3 φ).2 (tf3 a0 a1 a2 a3 φ).2))

def uni (a0 : StableHlo.TRef sig ⟨S2, .i32⟩) (a1 a2 : StableHlo.TRef sig ⟨S_, .f32⟩) (φ : fn_uniform.Bufs) : { ops : List (HloOp τ sig (Elt F)) // StableHlo.IsSeq (fn_uniform.body (F := F) a0 a1 a2 φ) ops } := by
  apply Subtype.mk
  · unfold fn_uniform.body
    repeat (first | exact StableHlo.IsSeq.nil | exact isSeq_last | apply StableHlo.IsSeq.cons | refine isSeq_append (tf _ _ _ _ _).2 ?_)

def take (a0 : StableHlo.TRef sig ⟨S8x1568x1568, .f32⟩) (a1 : StableHlo.TRef sig ⟨S8x196x1, .i32⟩) (φ : fn_take_along_axis.Bufs) : { ops : List (HloOp τ sig (Elt F)) // StableHlo.IsSeq (fn_take_along_axis.body (F := F) a0 a1 φ) ops } := by
  apply Subtype.mk
  · unfold fn_take_along_axis.body
    repeat (first | exact StableHlo.IsSeq.nil | exact isSeq_last | apply StableHlo.IsSeq.cons)

def amin (a0 : StableHlo.TRef sig ⟨S8x196x1568, .f32⟩) (φ : fn_argmin.Bufs) : { ops : List (HloOp τ sig (Elt F)) // StableHlo.IsSeq (fn_argmin.body (F := F) a0 φ) ops } := by
  apply Subtype.mk
  · unfold fn_argmin.body
    repeat (first | exact StableHlo.IsSeq.nil | exact isSeq_last | apply StableHlo.IsSeq.cons)

def m0 (d : Dev nD) : { ops : List (HloOp τ sig (Elt F)) // StableHlo.IsSeq (main_part0 (F := F) d) ops } := by
  apply Subtype.mk
  · unfold main_part0
    repeat (first | exact StableHlo.IsSeq.nil | exact isSeq_last | apply StableHlo.IsSeq.cons | refine isSeq_append (uni _ _ _ _).2 ?_ | refine isSeq_append (take _ _ _).2 ?_ | refine isSeq_append (amin _ _).2 ?_)

def m1 (d : Dev nD) : { ops : List (HloOp τ sig (Elt F)) // StableHlo.IsSeq (main_part1 (F := F) d) ops } := by
  apply Subtype.mk
  · unfold main_part1
    repeat (first | exact StableHlo.IsSeq.nil | exact isSeq_last | apply StableHlo.IsSeq.cons | refine isSeq_append (uni _ _ _ _).2 ?_ | refine isSeq_append (take _ _ _).2 ?_ | refine isSeq_append (amin _ _).2 ?_)

def m2 (d : Dev nD) : { ops : List (HloOp τ sig (Elt F)) // StableHlo.IsSeq (main_part2 (F := F) d) ops } := by
  apply Subtype.mk
  · unfold main_part2
    repeat (first | exact StableHlo.IsSeq.nil | exact isSeq_last | apply StableHlo.IsSeq.cons | refine isSeq_append (uni _ _ _ _).2 ?_ | refine isSeq_append (take _ _ _).2 ?_ | refine isSeq_append (amin _ _).2 ?_)

def d0 : Dev nD := ⟨0, by decide⟩

def line : List (HloOp τ sig (Elt F)) := (m0 d0).1 ++ ((m1 d0).1 ++ (m2 d0).1)

theorem line_isSeq (d : Dev nD) : StableHlo.IsSeq (main (F := F) d) line := by
  have hd : d = d0 := by
    apply Fin.ext
    have := d.isLt
    simp only [nD] at this
    show d.val = 0
    omega
  subst hd
  unfold main
  exact isSeq_append (m0 d0).2 (isSeq_append (m1 d0).2 (m2 d0).2)

/-- An operation of a line touches core buffers alone and starts nothing. -/
def Ok (op : HloOp τ sig (Elt F)) : Prop := op.bufs ⊆ StableHlo.tcRefs τ sig ∧ op.fresh = ∅

theorem ok_of {ops : List (HloOp τ sig (Elt F))} (h : ops.Forall fun op => op.bufs ⊆ StableHlo.tcRefs τ sig)
    (h' : ops.map HloOp.fresh = ops.map fun _ => (∅ : Finset (DevRef τ sig))) : ops.Forall Ok := by
  have h2 := StableHlo.forall_fresh_of_map h'
  rw [List.forall_iff_forall_mem] at *
  exact fun op ho => ⟨h op ho, h2 op ho⟩

theorem tf0_ok (a0 a1 : StableHlo.TRef sig ⟨S_, .i32⟩) (a2 a3 : StableHlo.TRef sig ⟨S8x1568, .i32⟩) (φ : fn_threefry2x32.Bufs) : (tf0 (F := F) a0 a1 a2 a3 φ).1.Forall Ok := ok_of (by simp [tf0]) rfl

theorem tf1_ok (a0 a1 : StableHlo.TRef sig ⟨S_, .i32⟩) (a2 a3 : StableHlo.TRef sig ⟨S8x1568, .i32⟩) (φ : fn_threefry2x32.Bufs) : (tf1 (F := F) a0 a1 a2 a3 φ).1.Forall Ok := ok_of (by simp [tf1]) rfl

theorem tf2_ok (a0 a1 : StableHlo.TRef sig ⟨S_, .i32⟩) (a2 a3 : StableHlo.TRef sig ⟨S8x1568, .i32⟩) (φ : fn_threefry2x32.Bufs) : (tf2 (F := F) a0 a1 a2 a3 φ).1.Forall Ok := ok_of (by simp [tf2]) rfl

theorem tf3_ok (a0 a1 : StableHlo.TRef sig ⟨S_, .i32⟩) (a2 a3 : StableHlo.TRef sig ⟨S8x1568, .i32⟩) (φ : fn_threefry2x32.Bufs) : (tf3 (F := F) a0 a1 a2 a3 φ).1.Forall Ok := ok_of (by simp [tf3]) rfl

theorem tf_ok (a0 a1 : StableHlo.TRef sig ⟨S_, .i32⟩) (a2 a3 : StableHlo.TRef sig ⟨S8x1568, .i32⟩) (φ : fn_threefry2x32.Bufs) : (tf (F := F) a0 a1 a2 a3 φ).1.Forall Ok := by
  unfold tf
  simp only [List.forall_append, tf0_ok, tf1_ok, tf2_ok, tf3_ok, and_self]

theorem take_ok (a0 : StableHlo.TRef sig ⟨S8x1568x1568, .f32⟩) (a1 : StableHlo.TRef sig ⟨S8x196x1, .i32⟩) (φ : fn_take_along_axis.Bufs) :
    (take (F := F) a0 a1 φ).1.Forall Ok := ok_of (by simp [take]) rfl

theorem amin_ok (a0 : StableHlo.TRef sig ⟨S8x196x1568, .f32⟩) (φ : fn_argmin.Bufs) :
    (amin (F := F) a0 φ).1.Forall Ok := ok_of (by simp [amin]) rfl

theorem uni_ok (a0 : StableHlo.TRef sig ⟨S2, .i32⟩) (a1 a2 : StableHlo.TRef sig ⟨S_, .f32⟩) (φ : fn_uniform.Bufs) :
    (uni (F := F) a0 a1 a2 φ).1.Forall Ok := by
  unfold uni
  repeat (first | exact True.intro | refine (List.forall_cons _ _ _).2 ⟨⟨by simp, rfl⟩, ?_⟩ | refine List.forall_append.2 ⟨tf_ok _ _ _ _ _, ?_⟩)

theorem m0_ok (d : Dev nD) : (m0 (F := F) d).1.Forall Ok := by
  unfold m0
  repeat (first | exact True.intro | refine (List.forall_cons _ _ _).2 ⟨⟨by simp, rfl⟩, ?_⟩ | refine List.forall_append.2 ⟨uni_ok _ _ _ _, ?_⟩ | refine List.forall_append.2 ⟨take_ok _ _ _, ?_⟩ | refine List.forall_append.2 ⟨amin_ok _ _, ?_⟩)

theorem m1_ok (d : Dev nD) : (m1 (F := F) d).1.Forall Ok := by
  unfold m1
  repeat (first | exact True.intro | refine (List.forall_cons _ _ _).2 ⟨⟨by simp, rfl⟩, ?_⟩ | refine List.forall_append.2 ⟨uni_ok _ _ _ _, ?_⟩ | refine List.forall_append.2 ⟨take_ok _ _ _, ?_⟩ | refine List.forall_append.2 ⟨amin_ok _ _, ?_⟩)

theorem m2_ok (d : Dev nD) : (m2 (F := F) d).1.Forall Ok := by
  unfold m2
  repeat (first | exact True.intro | refine (List.forall_cons _ _ _).2 ⟨⟨by simp, rfl⟩, ?_⟩ | refine List.forall_append.2 ⟨uni_ok _ _ _ _, ?_⟩ | refine List.forall_append.2 ⟨take_ok _ _ _, ?_⟩ | refine List.forall_append.2 ⟨amin_ok _ _, ?_⟩)

theorem line_ok : (line (F := F)).Forall Ok := by
  unfold line
  simp only [List.forall_append, m0_ok, m1_ok, m2_ok, and_self]

theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after line (StableHlo.launchContents m d) (Proc.devRef .tc b) :=
  StableHlo.run_hlo defs main line_isSeq (by decide) (by decide)
    (List.forall_iff_forall_mem.2 fun op h => (List.forall_iff_forall_mem.1 line_ok op h).1)
    (fun op h => (List.forall_iff_forall_mem.1 line_ok op h).2) m ρ

theorem arg0_kept (V : Valuation τ sig (Elt F)) :
    StableHlo.after line V (Proc.devRef .tc main_arg0) = V (Proc.devRef .tc main_arg0) := by
  after_reads_simp

theorem arg1_kept (V : Valuation τ sig (Elt F)) :
    StableHlo.after line V (Proc.devRef .tc main_arg1) = V (Proc.devRef .tc main_arg1) := by
  after_reads_simp

theorem arg2_kept (V : Valuation τ sig (Elt F)) :
    StableHlo.after line V (Proc.devRef .tc main_arg2) = V (Proc.devRef .tc main_arg2) := by
  after_reads_simp

theorem frame_run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c =>
    ⟨(h c main_arg0).trans (arg0_kept _), (h c main_arg1).trans (arg1_kept _), (h c main_arg2).trans (arg2_kept _)⟩,
    Idealize.ShloMosaic.sem_eq_zero_of_no_sems (by decide) r.2⟩) (run m ρ)

end Cert.ReferenceIdeal.Host
end
-- ==== Proof.Noise.lean ====
/-
  The noise: the kernel's program and the reference compute the same array before anything reads it, and it is not negative.
-/
module

public import proofs.«01_k».proof.Proof.Gen.KernelIdeal.Frame
public import proofs.«01_k».proof.Proof.RefRun
public import Idealize.ShloMosaic.Lib.StableHlo.RunRead

@[expose] public section

set_option maxRecDepth 16384

noncomputable section

namespace Cert.Noise

open Idealize.ShloMosaic Idealize.ShloMosaic.TcCoe Idealize.ShloMosaic.Tactic

variable {F : FTy → Type} [FloatOps F]

set_option maxHeartbeats 0 in
/-- Both programs draw the same noise, whatever their buffers hold. -/
theorem same (V : Valuation Cert.KernelIdeal.τ Cert.KernelIdeal.sig (Elt F))
    (V' : Valuation Cert.ReferenceIdeal.τ Cert.ReferenceIdeal.sig (Elt F)) :
    StableHlo.after (List.flatten [Cert.KernelIdeal.Gen.hostOps0, Cert.KernelIdeal.Gen.hostOps0_1, Cert.KernelIdeal.Gen.hostOps0_2]) V
        (Proc.devRef .tc Cert.KernelIdeal.main_v9)
      = StableHlo.after (Cert.ReferenceIdeal.Host.m0 Cert.ReferenceIdeal.Host.d0).1 V' (Proc.devRef .tc Cert.ReferenceIdeal.main_v38) := by
  after_reads_simp
  rfl

end Cert.Noise

end
-- ==== Proof.RefLines.lean ====
/-
  The reference's line of operations cut in pieces, and what each piece leaves as an expression of what it reads.
-/
module

public import proofs.«01_k».proof.Proof.RefRun

@[expose] public section

set_option maxRecDepth 16384
set_option maxHeartbeats 4000000

noncomputable section

namespace Cert.ReferenceIdeal.Val

open Cert.ReferenceIdeal Cert.ReferenceIdeal.Gen Cert.ReferenceIdeal.Host
open Idealize.ShloMosaic Idealize.ShloMosaic.TcCoe Idealize.ShloMosaic.Tactic

variable {F : FTy → Type} [FloatOps F]

/-! ### The pieces of the line -/

def segA : List (HloOp τ sig (Elt F)) := (m0 d0).1.take 37
def restA : List (HloOp τ sig (Elt F)) := (m0 d0).1.drop 37
def segU : List (HloOp τ sig (Elt F)) := restA.take ((restA (F := F)).length - 7)
def segB : List (HloOp τ sig (Elt F)) := restA.drop ((restA (F := F)).length - 7)
def seg1 : List (HloOp τ sig (Elt F)) := (m1 d0).1.take 14
def rest1 : List (HloOp τ sig (Elt F)) := (m1 d0).1.drop 14
def seg2 : List (HloOp τ sig (Elt F)) := rest1.take 3
def rest2 : List (HloOp τ sig (Elt F)) := rest1.drop 3
def seg3 : List (HloOp τ sig (Elt F)) := rest2.take 22
def rest3 : List (HloOp τ sig (Elt F)) := rest2.drop 22
def seg4 : List (HloOp τ sig (Elt F)) := rest3.take 5
def rest4 : List (HloOp τ sig (Elt F)) := rest3.drop 5
def seg5 : List (HloOp τ sig (Elt F)) := rest4.take 26
def rest5 : List (HloOp τ sig (Elt F)) := rest4.drop 26 ++ (m2 d0).1
def seg6 : List (HloOp τ sig (Elt F)) := rest5.take 23
def rest6 : List (HloOp τ sig (Elt F)) := rest5.drop 23
def seg8 : List (HloOp τ sig (Elt F)) := rest6.take 10
def seg9 : List (HloOp τ sig (Elt F)) := rest6.drop 10

theorem cut (l : List (HloOp τ sig (Elt F))) (n : ℕ) (W : Valuation τ sig (Elt F)) :
    StableHlo.after l W = StableHlo.after (l.drop n) (StableHlo.after (l.take n) W) := by
  rw [← StableHlo.after_append, List.take_append_drop]

/-! ### The expressions -/

/-- The weight of every token, -/
def e4 (a0g : Vec F S8x1568x384 .f32) (a1g : Vec F S1x384 .f32) (a2g : Vec F S1 .f32) : Vec F S8x1568x1 .f32 :=
  (Host.exp (addf (Host.dotGeneral dot_S8x1568x384_S1x384_S8x1568x1_2_1_01_0_n_n none a0g a1g) (broadcastInDim S8x1568x1 ![0, 1, 2] bcast_S1x1x1_S8x1568x1_0_1_2 (broadcastInDim S1x1x1 ![2] bcast_S1_S1x1x1_2 a2g))))

/-- The distances, -/
def e20 (a0g : Vec F S8x1568x384 .f32) : Vec F S8x1568x1568 .f32 :=
  (Host.divf (Host.sqrt (maximumf (subf (addf (broadcastInDim S8x1568x1568 ![0, 1, 2] bcast_S8x1568x1_S8x1568x1568_0_1_2 (broadcastInDim S8x1568x1 ![0, 1] bcast_S8x1568_S8x1568x1_0_1 (Host.reduceAdd (mulf a0g a0g) (constant (F := F) S_ .f32 0x00000000#32) reducesTo_S8x1568x384_S8x1568_d2 h_S_))) (broadcastInDim S8x1568x1568 ![0, 1, 2] bcast_S8x1x1568_S8x1568x1568_0_1_2 (broadcastInDim S8x1x1568 ![0, 2] bcast_S8x1568_S8x1x1568_0_2 (Host.reduceAdd (mulf a0g a0g) (constant (F := F) S_ .f32 0x00000000#32) reducesTo_S8x1568x384_S8x1568_d2 h_S_)))) (mulf (broadcastInDim S8x1568x1568 ![] bcast_S_S8x1568x1568 (constant (F := F) S_ .f32 0x40000000#32)) (Host.dotGeneral dot_S8x1568x384_S8x1568x384_S8x1568x1568_2_2_1_1_0_0 none a0g a0g))) (broadcastInDim S8x1568x1568 ![] bcast_S_S8x1568x1568 (constant (F := F) S_ .f32 0x00000000#32)))) (broadcastInDim S8x1568x1568 ![] bcast_S_S8x1568x1568 (constant (F := F) S_ .f32 0x419CC471#32)))

/-- The densities before the noise, -/
def e28 (a20 : Vec F S8x1568x1568 .f32) : Vec F S8x1568 .f32 :=
  (Host.exp (Host.negf (Host.divf (Host.reduceAdd (mulf (Host.negf ((Host.topK S8x1568x9 2 (FloatOps.cmpfTotal .gt) (Host.negf a20) sliceFits_S8x1568x1568_S8x1568x9).1)) (Host.negf ((Host.topK S8x1568x9 2 (FloatOps.cmpfTotal .gt) (Host.negf a20) sliceFits_S8x1568x1568_S8x1568x9).1))) (constant (F := F) S_ .f32 0x00000000#32) reducesTo_S8x1568x9_S8x1568_d2 h_S_) (broadcastInDim S8x1568 ![] bcast_S_S8x1568 (constant (F := F) S_ .f32 0x41100000#32)))))

/-- The densities, -/
def e39 (a28 : Vec F S8x1568 .f32) (a38 : Vec F S8x1568 .f32) : Vec F S8x1568 .f32 :=
  (addf a28 a38)

/-- Which token is denser than which, -/
def e45 (a39 : Vec F S8x1568 .f32) : Vec F S8x1568x1568 .f32 :=
  (uitofp .f32 (cmpf .ogt (broadcastInDim S8x1568x1568 ![0, 1, 2] bcast_S8x1x1568_S8x1568x1568_0_1_2 (broadcastInDim S8x1x1568 ![0, 2] bcast_S8x1568_S8x1x1568_0_2 a39)) (broadcastInDim S8x1568x1568 ![0, 1, 2] bcast_S8x1568x1_S8x1568x1568_0_1_2 (broadcastInDim S8x1568x1 ![0, 1] bcast_S8x1568_S8x1568x1_0_1 a39))))

/-- The greatest distance of every batch entry, -/
def e47 (a20 : Vec F S8x1568x1568 .f32) : Vec F S8 .f32 :=
  (Host.reduce FloatOps.maximumf (shapeCast S8x2458624 a20 shapeCasts_S8x1568x1568_S8x2458624) (constant (F := F) S_ .f32 0xFF800000#32) reducesTo_S8x2458624_S8_d1 h_S_)

/-- The scores, -/
def e56 (a20 : Vec F S8x1568x1568 .f32) (a45 : Vec F S8x1568x1568 .f32) (a39 : Vec F S8x1568 .f32) : Vec F S8x1568 .f32 :=
  (mulf (Host.reduce FloatOps.minimumf (addf (mulf a20 a45) (mulf (broadcastInDim S8x1568x1568 ![0, 1, 2] bcast_S8x1x1_S8x1568x1568_0_1_2 (broadcastInDim S8x1x1 ![0] bcast_S8_S8x1x1_0 (e47 a20))) (subf (broadcastInDim S8x1568x1568 ![] bcast_S_S8x1568x1568 (constant (F := F) S_ .f32 0x3F800000#32)) a45))) (constant (F := F) S_ .f32 0x7F800000#32) reducesTo_S8x1568x1568_S8x1568_d2 h_S_) a39)

/-- The centres, -/
def e14 (a56 : Vec F S8x1568 .f32) : IVec S8x196 32 :=
  ((Host.topK S8x196 1 (FloatOps.cmpfTotal .gt) a56 sliceFits_S8x1568_S8x196).2)

/-- Again with one more axis, -/
def e57 (a14 : IVec S8x196 32) : IVec S8x196x1 32 :=
  (broadcastInDim S8x196x1 ![0, 1] bcast_S8x196_S8x196x1_0_1 a14)

/-- With a negative one counted from the end, -/
def eW (a57 : IVec S8x196x1 32) : IVec S8x196x1 32 :=
  (select (cmpi .slt a57 (broadcastInDim S8x196x1 ![] bcast_S_S8x196x1 (constantI S_ 32 0#32))) (addi a57 (broadcastInDim S8x196x1 ![] bcast_S_S8x196x1 (constantI S_ 32 1568#32))) a57)

/-- The distances from the centres, -/
def e58 (a20 : Vec F S8x1568x1568 .f32) (a57 : IVec S8x196x1 32) : Vec F S8x196x1568 .f32 :=
  (select (broadcastInDim S8x196x1568 ![0, 1] bcast_S8x196_S8x196x1568_0_1 (Host.reduce IntOp.andi (andi (cmpi .sge (eW a57) (broadcastInDim S8x196x1 ![] bcast_S_S8x196x1 (constantI S_ 32 0#32))) (cmpi .sle (eW a57) (broadcastInDim S8x196x1 ![0, 1, 2] bcast_S1x1x1_S8x196x1_0_1_2 (broadcastInDim S1x1x1 ![2] bcast_S1_S1x1x1_2 (constantI S1 32 1567#32))))) (constantI S_ 1 1#1) reducesTo_S8x196x1_S8x196_d2 h_S_)) (Host.gather gather_S8x1568x1568_S8x196x1_S8x196x1568_2_1_0_0_1_2_111568 a20 (eW a57)) (broadcastInDim S8x196x1568 ![] bcast_S_S8x196x1568 (constant (F := F) S_ .f32 0x7FC00000#32)))

/-- The nearest of them, -/
def e59 (a58 : Vec F S8x196x1568 .f32) : IVec S8x1568 32 :=
  (fun j => (Host.argReduce reducer_argmin_f32_i32 a58 (iotaInDim S8x196x1568 32 1) (constant (F := F) S_ .f32 0x7F800000#32) (constantI S_ 32 0#32) reducesTo_S8x196x1568_S8x1568_d1 h_S_ j).2)

/-- The places of the centres, -/
def e80 (a14 : IVec S8x196 32) : IVec S1568x2 32 :=
  (concatenate S1568x2 1 [⟨S1568x1, (broadcastInDim S1568x1 ![0] bcast_S1568_S1568x1_0 (select (cmpi .slt (shapeCast S1568 (broadcastInDim S8x196 ![0] bcast_S8_S8x196_0 (iotaInDim S8 32 0)) shapeCasts_S8x196_S1568) (broadcastInDim S1568 ![] bcast_S_S1568 (constantI S_ 32 0#32))) (addi (shapeCast S1568 (broadcastInDim S8x196 ![0] bcast_S8_S8x196_0 (iotaInDim S8 32 0)) shapeCasts_S8x196_S1568) (broadcastInDim S1568 ![] bcast_S_S1568 (constantI S_ 32 8#32))) (shapeCast S1568 (broadcastInDim S8x196 ![0] bcast_S8_S8x196_0 (iotaInDim S8 32 0)) shapeCasts_S8x196_S1568)))⟩, ⟨S1568x1, (broadcastInDim S1568x1 ![0] bcast_S1568_S1568x1_0 (select (cmpi .slt (shapeCast S1568 a14 shapeCasts_S8x196_S1568) (broadcastInDim S1568 ![] bcast_S_S1568 (constantI S_ 32 0#32))) (addi (shapeCast S1568 a14 shapeCasts_S8x196_S1568) (broadcastInDim S1568 ![] bcast_S_S1568 (constantI S_ 32 1568#32))) (shapeCast S1568 a14 shapeCasts_S8x196_S1568)))⟩] concatenates_S1568x1_S1568x1_S1568x2_d1)

/-- Their numbers, -/
def e66  : IVec S1568 32 :=
  (shapeCast S1568 (broadcastInDim S8x196 ![0, 1] bcast_S1x196_S8x196_0_1 (shapeCast S1x196 (iotaInDim S196 32 0) shapeCasts_S196_S1x196)) shapeCasts_S8x196_S1568)

/-- The cluster of every token, -/
def e81 (a59 : IVec S8x1568 32) (a14 : IVec S8x196 32) : IVec S8x1568 32 :=
  (Host.scatter scatter_S8x1568_S1568x2_S1568_n_01_01_1 (fun _ b => b) a59 (e80 a14) e66)

/-- The same as a row of the flat table, -/
def e88 (a81 : IVec S8x1568 32) : IVec S12544 32 :=
  (shapeCast S12544 (addi a81 (broadcastInDim S8x1568 ![0, 1] bcast_S8x1_S8x1568_0_1 (muli (broadcastInDim S8x1 ![0] bcast_S8_S8x1_0 (iotaInDim S8 32 0)) (broadcastInDim S8x1 ![] bcast_S_S8x1 (constantI S_ 32 196#32))))) shapeCasts_S8x1568_S12544)

/-- As an index, -/
def e96 (a88 : IVec S12544 32) : IVec S12544x1 32 :=
  (broadcastInDim S12544x1 ![0] bcast_S12544_S12544x1_0 (select (cmpi .slt a88 (broadcastInDim S12544 ![] bcast_S_S12544 (constantI S_ 32 0#32))) (addi a88 (broadcastInDim S12544 ![] bcast_S_S12544 (constantI S_ 32 1568#32))) a88))

/-- The weight of every cluster, -/
def e99 (a4 : Vec F S8x1568x1 .f32) (a88 : IVec S12544 32) : Vec F S1568x1 .f32 :=
  (addf (Host.scatterAdd scatter_S1568x1_S12544x1_S12544x1_1_0_0_1 (broadcastInDim S1568x1 ![] bcast_S_S1568x1 (constant (F := F) S_ .f32 0x00000000#32)) (e96 a88) (shapeCast S12544x1 a4 shapeCasts_S8x1568x1_S12544x1)) (broadcastInDim S1568x1 ![] bcast_S_S1568x1 (constant (F := F) S_ .f32 0x358637BD#32)))

/-- The index again, -/
def e105 (a88 : IVec S12544 32) : IVec S12544x1 32 :=
  (broadcastInDim S12544x1 ![0] bcast_S12544_S12544x1_0 (select (cmpi .slt a88 (broadcastInDim S12544 ![] bcast_S_S12544 (constantI S_ 32 0#32))) (addi a88 (broadcastInDim S12544 ![] bcast_S_S12544 (constantI S_ 32 1568#32))) a88))

/-- The weight of the cluster of every token, -/
def e107 (a99 : Vec F S1568x1 .f32) (a88 : IVec S12544 32) : Vec F S8x1568x1 .f32 :=
  (shapeCast S8x1568x1 (Host.gather gather_S1568x1_S12544x1_S12544x1_1_0_n_n_0_1_11 a99 (e105 a88)) shapeCasts_S12544x1_S8x1568x1)

/-- The weighted tokens, -/
def e110 (a0g : Vec F S8x1568x384 .f32) (a4 : Vec F S8x1568x1 .f32) (a107 : Vec F S8x1568x1 .f32) : Vec F S8x1568x384 .f32 :=
  (mulf a0g (broadcastInDim S8x1568x384 ![0, 1, 2] bcast_S8x1568x1_S8x1568x384_0_1_2 (Host.divf a4 a107)))

/-- The index once more, -/
def e118 (a88 : IVec S12544 32) : IVec S12544x1 32 :=
  (broadcastInDim S12544x1 ![0] bcast_S12544_S12544x1_0 (select (cmpi .slt a88 (broadcastInDim S12544 ![] bcast_S_S12544 (constantI S_ 32 0#32))) (addi a88 (broadcastInDim S12544 ![] bcast_S_S12544 (constantI S_ 32 1568#32))) a88))

/-- And the result. -/
def e120 (a0g : Vec F S8x1568x384 .f32) (a4 : Vec F S8x1568x1 .f32) (a107 : Vec F S8x1568x1 .f32) (a88 : IVec S12544 32) : Vec F S8x196x384 .f32 :=
  (shapeCast S8x196x384 (Host.scatterAdd scatter_S1568x384_S12544x1_S12544x384_1_0_0_1 (broadcastInDim S1568x384 ![] bcast_S_S1568x384 (constant (F := F) S_ .f32 0x00000000#32)) (e118 a88) (shapeCast S12544x384 (e110 a0g a4 a107) shapeCasts_S8x1568x384_S12544x384)) shapeCasts_S1568x384_S8x196x384)

/-! ### What the pieces leave -/

theorem re4 (W : Valuation τ sig (Elt F)) :
    StableHlo.after (segA (F := F)) W (Proc.devRef .tc main_v4) = e4 (W (Proc.devRef .tc main_arg0)) (W (Proc.devRef .tc main_arg1)) (W (Proc.devRef .tc main_arg2)) := by
  after_reads_simp
  rfl

theorem re20 (W : Valuation τ sig (Elt F)) :
    StableHlo.after (segA (F := F)) W (Proc.devRef .tc main_v20) = e20 (W (Proc.devRef .tc main_arg0)) := by
  after_reads_simp
  rfl

theorem re28 (W : Valuation τ sig (Elt F)) :
    StableHlo.after (segA (F := F)) W (Proc.devRef .tc main_v28) = e28 (StableHlo.after (segA (F := F)) W (Proc.devRef .tc main_v20)) := by
  after_reads_simp
  rfl

theorem re39 (W : Valuation τ sig (Elt F)) :
    StableHlo.after (segB (F := F)) W (Proc.devRef .tc main_v39) = e39 (W (Proc.devRef .tc main_v28)) (W (Proc.devRef .tc main_v38)) := by
  after_reads_simp
  rfl

theorem re45 (W : Valuation τ sig (Elt F)) :
    StableHlo.after (segB (F := F)) W (Proc.devRef .tc main_v45) = e45 (StableHlo.after (segB (F := F)) W (Proc.devRef .tc main_v39)) := by
  after_reads_simp
  rfl

theorem re56 (W : Valuation τ sig (Elt F)) :
    StableHlo.after (seg1 (F := F)) W (Proc.devRef .tc main_v56) = e56 (W (Proc.devRef .tc main_v20)) (W (Proc.devRef .tc main_v45)) (W (Proc.devRef .tc main_v39)) := by
  after_reads_simp
  rfl

theorem re14 (W : Valuation τ sig (Elt F)) :
    StableHlo.after (seg2 (F := F)) W (Proc.devRef .tc main_indices_14) = e14 (W (Proc.devRef .tc main_v56)) := by
  after_reads_simp
  rfl

theorem re57 (W : Valuation τ sig (Elt F)) :
    StableHlo.after (seg2 (F := F)) W (Proc.devRef .tc main_v57) = e57 (StableHlo.after (seg2 (F := F)) W (Proc.devRef .tc main_indices_14)) := by
  after_reads_simp
  rfl

theorem re58 (W : Valuation τ sig (Elt F)) :
    StableHlo.after (seg3 (F := F)) W (Proc.devRef .tc main_v58) = e58 (W (Proc.devRef .tc main_v20)) (W (Proc.devRef .tc main_v57)) := by
  after_reads_simp
  rfl

theorem re59 (W : Valuation τ sig (Elt F)) :
    StableHlo.after (seg4 (F := F)) W (Proc.devRef .tc main_v59) = e59 (W (Proc.devRef .tc main_v58)) := by
  after_reads_simp
  rfl

theorem re81 (W : Valuation τ sig (Elt F)) :
    StableHlo.after (seg5 (F := F)) W (Proc.devRef .tc main_v81) = e81 (W (Proc.devRef .tc main_v59)) (W (Proc.devRef .tc main_indices_14)) := by
  after_reads_simp
  rfl

theorem re88 (W : Valuation τ sig (Elt F)) :
    StableHlo.after (seg6 (F := F)) W (Proc.devRef .tc main_v88) = e88 (W (Proc.devRef .tc main_v81)) := by
  after_reads_simp
  rfl

theorem re99 (W : Valuation τ sig (Elt F)) :
    StableHlo.after (seg6 (F := F)) W (Proc.devRef .tc main_v99) = e99 (W (Proc.devRef .tc main_v4)) (StableHlo.after (seg6 (F := F)) W (Proc.devRef .tc main_v88)) := by
  after_reads_simp
  rfl

theorem re107 (W : Valuation τ sig (Elt F)) :
    StableHlo.after (seg8 (F := F)) W (Proc.devRef .tc main_v107) = e107 (W (Proc.devRef .tc main_v99)) (W (Proc.devRef .tc main_v88)) := by
  after_reads_simp
  rfl

theorem re120 (W : Valuation τ sig (Elt F)) :
    StableHlo.after (seg9 (F := F)) W (Proc.devRef .tc main_v120) = e120 (W (Proc.devRef .tc main_arg0)) (W (Proc.devRef .tc main_v4)) (W (Proc.devRef .tc main_v107)) (W (Proc.devRef .tc main_v88)) := by
  after_reads_simp
  rfl

theorem ksegU_arg0 (W : Valuation τ sig (Elt F)) :
    StableHlo.after (segU (F := F)) W (Proc.devRef .tc main_arg0) = W (Proc.devRef .tc main_arg0) := by
  after_reads_simp

theorem ksegU_v4 (W : Valuation τ sig (Elt F)) :
    StableHlo.after (segU (F := F)) W (Proc.devRef .tc main_v4) = W (Proc.devRef .tc main_v4) := by
  after_reads_simp

theorem ksegU_v20 (W : Valuation τ sig (Elt F)) :
    StableHlo.after (segU (F := F)) W (Proc.devRef .tc main_v20) = W (Proc.devRef .tc main_v20) := by
  after_reads_simp

theorem ksegU_v28 (W : Valuation τ sig (Elt F)) :
    StableHlo.after (segU (F := F)) W (Proc.devRef .tc main_v28) = W (Proc.devRef .tc main_v28) := by
  after_reads_simp

theorem ksegA_arg0 (W : Valuation τ sig (Elt F)) :
    StableHlo.after (segA (F := F)) W (Proc.devRef .tc main_arg0) = W (Proc.devRef .tc main_arg0) := by
  after_reads_simp

theorem ksegB_arg0 (W : Valuation τ sig (Elt F)) :
    StableHlo.after (segB (F := F)) W (Proc.devRef .tc main_arg0) = W (Proc.devRef .tc main_arg0) := by
  after_reads_simp

theorem ksegB_v4 (W : Valuation τ sig (Elt F)) :
    StableHlo.after (segB (F := F)) W (Proc.devRef .tc main_v4) = W (Proc.devRef .tc main_v4) := by
  after_reads_simp

theorem ksegB_v20 (W : Valuation τ sig (Elt F)) :
    StableHlo.after (segB (F := F)) W (Proc.devRef .tc main_v20) = W (Proc.devRef .tc main_v20) := by
  after_reads_simp

theorem ksegB_v38 (W : Valuation τ sig (Elt F)) :
    StableHlo.after (segB (F := F)) W (Proc.devRef .tc main_v38) = W (Proc.devRef .tc main_v38) := by
  after_reads_simp

theorem kseg1_arg0 (W : Valuation τ sig (Elt F)) :
    StableHlo.after (seg1 (F := F)) W (Proc.devRef .tc main_arg0) = W (Proc.devRef .tc main_arg0) := by
  after_reads_simp

theorem kseg1_v4 (W : Valuation τ sig (Elt F)) :
    StableHlo.after (seg1 (F := F)) W (Proc.devRef .tc main_v4) = W (Proc.devRef .tc main_v4) := by
  after_reads_simp

theorem kseg1_v20 (W : Valuation τ sig (Elt F)) :
    StableHlo.after (seg1 (F := F)) W (Proc.devRef .tc main_v20) = W (Proc.devRef .tc main_v20) := by
  after_reads_simp

theorem kseg2_arg0 (W : Valuation τ sig (Elt F)) :
    StableHlo.after (seg2 (F := F)) W (Proc.devRef .tc main_arg0) = W (Proc.devRef .tc main_arg0) := by
  after_reads_simp

theorem kseg2_v4 (W : Valuation τ sig (Elt F)) :
    StableHlo.after (seg2 (F := F)) W (Proc.devRef .tc main_v4) = W (Proc.devRef .tc main_v4) := by
  after_reads_simp

theorem kseg2_v20 (W : Valuation τ sig (Elt F)) :
    StableHlo.after (seg2 (F := F)) W (Proc.devRef .tc main_v20) = W (Proc.devRef .tc main_v20) := by
  after_reads_simp

theorem kseg3_arg0 (W : Valuation τ sig (Elt F)) :
    StableHlo.after (seg3 (F := F)) W (Proc.devRef .tc main_arg0) = W (Proc.devRef .tc main_arg0) := by
  after_reads_simp

theorem kseg3_v4 (W : Valuation τ sig (Elt F)) :
    StableHlo.after (seg3 (F := F)) W (Proc.devRef .tc main_v4) = W (Proc.devRef .tc main_v4) := by
  after_reads_simp

theorem kseg3_indices_14 (W : Valuation τ sig (Elt F)) :
    StableHlo.after (seg3 (F := F)) W (Proc.devRef .tc main_indices_14) = W (Proc.devRef .tc main_indices_14) := by
  after_reads_simp

theorem kseg4_arg0 (W : Valuation τ sig (Elt F)) :
    StableHlo.after (seg4 (F := F)) W (Proc.devRef .tc main_arg0) = W (Proc.devRef .tc main_arg0) := by
  after_reads_simp

theorem kseg4_v4 (W : Valuation τ sig (Elt F)) :
    StableHlo.after (seg4 (F := F)) W (Proc.devRef .tc main_v4) = W (Proc.devRef .tc main_v4) := by
  after_reads_simp

theorem kseg4_indices_14 (W : Valuation τ sig (Elt F)) :
    StableHlo.after (seg4 (F := F)) W (Proc.devRef .tc main_indices_14) = W (Proc.devRef .tc main_indices_14) := by
  after_reads_simp

theorem kseg5_arg0 (W : Valuation τ sig (Elt F)) :
    StableHlo.after (seg5 (F := F)) W (Proc.devRef .tc main_arg0) = W (Proc.devRef .tc main_arg0) := by
  after_reads_simp

theorem kseg5_v4 (W : Valuation τ sig (Elt F)) :
    StableHlo.after (seg5 (F := F)) W (Proc.devRef .tc main_v4) = W (Proc.devRef .tc main_v4) := by
  after_reads_simp

theorem kseg6_arg0 (W : Valuation τ sig (Elt F)) :
    StableHlo.after (seg6 (F := F)) W (Proc.devRef .tc main_arg0) = W (Proc.devRef .tc main_arg0) := by
  after_reads_simp

theorem kseg6_v4 (W : Valuation τ sig (Elt F)) :
    StableHlo.after (seg6 (F := F)) W (Proc.devRef .tc main_v4) = W (Proc.devRef .tc main_v4) := by
  after_reads_simp

theorem kseg8_arg0 (W : Valuation τ sig (Elt F)) :
    StableHlo.after (seg8 (F := F)) W (Proc.devRef .tc main_arg0) = W (Proc.devRef .tc main_arg0) := by
  after_reads_simp

theorem kseg8_v4 (W : Valuation τ sig (Elt F)) :
    StableHlo.after (seg8 (F := F)) W (Proc.devRef .tc main_v4) = W (Proc.devRef .tc main_v4) := by
  after_reads_simp

theorem kseg8_v88 (W : Valuation τ sig (Elt F)) :
    StableHlo.after (seg8 (F := F)) W (Proc.devRef .tc main_v88) = W (Proc.devRef .tc main_v88) := by
  after_reads_simp

end Cert.ReferenceIdeal.Val
end
-- ==== Proof.Order.lean ====
/-
  Facts about orders that the value proof uses: a fold of min or max, the first place where a table meets a value,
  a table whose least entry is taken out again and again, and the stable sort by a key.
-/
module

public import Idealize.ShloMosaic.PureOps.Ideal
public import Idealize.ShloMosaic.PureOps
public import Idealize.ShloMosaic.Lib.SortPrefix
public import Mathlib.Data.Finset.Fold
public import Mathlib.Order.Fin.Basic
public import Idealize.ShloMosaic.PureOps.Reduce

@[expose] public section

noncomputable section

namespace Cert.Order

open Idealize.ShloMosaic

/-! ### Folds -/

/-- What a left fold over all the positions keeps, from a property at each step. -/
theorem foldl_keeps {n : Nat} {α : Type} (P : Nat → α → Prop) (g : Fin n → α → α) (init : α) (h0 : P 0 init)
    (hs : ∀ (k : Fin n) a, P k.val a → P (k.val + 1) (g k a)) :
    P n ((List.finRange n).foldl (fun acc k => g k acc) init) := by
  induction n generalizing init P with
  | zero => simpa using h0
  | succ n ih =>
    rw [List.finRange_succ, List.foldl_cons, List.foldl_map]
    exact ih (fun k a => P (k + 1) a) (fun k a => g k.succ a) (g 0 init) (by simpa using hs 0 init (by simpa using h0))
      (fun k a h => by simpa using hs k.succ a (by simpa using h))

theorem fold_max_eq_sup {ι : Type} (s : Finset ι) (f : ι → EReal) : s.fold max ⊥ f = s.sup f := rfl

theorem fold_min_eq_inf {ι : Type} (s : Finset ι) (f : ι → EReal) : s.fold min ⊤ f = s.inf f := rfl

/-- The signed minimum over a table that holds the position where `p` holds and `N` elsewhere: the first such position. -/
theorem fold_minsi_first {ι : Type} [Fintype ι] (e : ι → Nat) (he : ∀ i, e i < 2 ^ 30) (N : Nat) (hN : N < 2 ^ 30) (heN : ∀ i, e i < N)
    (p : ι → Prop) [DecidablePred p] (j : ι) (hj : p j) (hfirst : ∀ i, p i → e j ≤ e i) :
    (Finset.univ : Finset ι).fold IntOp.minsi 2147483647#32 (fun i => if p i then BitVec.ofNat 32 (e i) else BitVec.ofNat 32 N)
      = BitVec.ofNat 32 (e j) := by
  have htoInt : ∀ n : Nat, n < 2 ^ 30 → (BitVec.ofNat 32 n).toInt = (n : Int) := by
    intro n hn
    rw [BitVec.toInt_eq_toNat_of_lt (by rw [BitVec.toNat_ofNat]; omega), BitVec.toNat_ofNat, Nat.mod_eq_of_lt (by omega)]
  have hmin : ∀ a b : BitVec 32, (IntOp.minsi a b).toInt = min a.toInt b.toInt := by
    intro a b
    unfold IntOp.minsi
    simp only [BitVec.slt, decide_eq_true_eq]
    split <;> omega
  apply BitVec.eq_of_toInt_eq
  rw [← Finset.fold_hom (op := IntOp.minsi) (op' := min) (m := BitVec.toInt) hmin]
  rw [htoInt _ (he j)]
  apply le_antisymm
  · rw [Finset.fold_min_le]
    right
    refine ⟨j, Finset.mem_univ _, ?_⟩
    rw [if_pos hj, htoInt _ (he j)]
  · rw [Finset.le_fold_min]
    constructor
    · have := he j
      have h2 : (2147483647#32 : BitVec 32).toInt = 2147483647 := by decide
      rw [h2]; omega
    · intro i _
      split
      · next h => rw [htoInt _ (he i)]; exact_mod_cast hfirst i h
      · rw [htoInt _ hN]; exact_mod_cast (heN j).le

/-! ### Taking out the least entry again and again -/

/-- The number of entries at most `t`. -/
def below {n : Nat} (f : Fin n → EReal) (t : EReal) : Nat := (Finset.univ.filter fun i => f i ≤ t).card

theorem below_update {n : Nat} (f : Fin n → EReal) (j : Fin n) (t : EReal) (ht : t < ⊤)
    (hj : ∀ i, f j ≤ f i) : below (fun i => if i = j then ⊤ else f i) t = below f t - 1 := by
  unfold below
  by_cases h : f j ≤ t
  · have : (Finset.univ.filter fun i => (if i = j then ⊤ else f i) ≤ t) = (Finset.univ.filter fun i => f i ≤ t).erase j := by
      ext i
      simp only [Finset.mem_filter, Finset.mem_univ, true_and, Finset.mem_erase]
      by_cases hij : i = j
      · simp [hij, ht.ne]
      · simp [hij]
    rw [this, Finset.card_erase_of_mem (by simp [h])]
  · have h1 : (Finset.univ.filter fun i => f i ≤ t) = ∅ := by
      rw [Finset.filter_eq_empty_iff]
      intro i _ hi
      exact h ((hj i).trans hi)
    have h2 : (Finset.univ.filter fun i => (if i = j then ⊤ else f i) ≤ t) = ∅ := by
      rw [Finset.filter_eq_empty_iff]
      intro i _ hi
      by_cases hij : i = j
      · simp only [hij, if_true] at hi
        exact absurd hi (not_le.2 ht)
      · simp only [hij, if_false] at hi
        exact h ((hj i).trans hi)
    rw [h1, h2]; rfl

theorem inf_le_iff {n : Nat} (f : Fin n → EReal) (t : EReal) (ht : t < ⊤) :
    Finset.univ.inf f ≤ t ↔ 0 < below f t := by
  rw [Finset.inf_le_iff ht]
  unfold below
  rw [Finset.card_pos]
  constructor
  · rintro ⟨i, _, hi⟩; exact ⟨i, by simp [hi]⟩
  · rintro ⟨i, hi⟩; exact ⟨i, by simp, by simpa using hi⟩

/-- Of a rearrangement in ascending order, entry `r` is at most `t` exactly when more than `r` entries are. -/
theorem sorted_le_iff {n : Nat} (f : Fin n → EReal) (π : Fin n → Fin n) (hπ : Function.Bijective π)
    (hm : Monotone (f ∘ π)) (r : Fin n) (t : EReal) : f (π r) ≤ t ↔ r.val < below f t := by
  have hcard : below f t = (Finset.univ.filter fun s => f (π s) ≤ t).card := by
    unfold below
    symm
    apply Finset.card_bij (fun s _ => π s)
    · intro s hs; simpa using hs
    · intro a _ b _ h; exact hπ.1 h
    · intro b hb
      obtain ⟨a, rfl⟩ := hπ.2 b
      exact ⟨a, by simpa using hb, rfl⟩
  rw [hcard]
  constructor
  · intro h
    have : (Finset.univ.filter fun s : Fin n => s ≤ r) ⊆ (Finset.univ.filter fun s => f (π s) ≤ t) := by
      intro s hs
      simp only [Finset.mem_filter, Finset.mem_univ, true_and] at hs ⊢
      exact (hm hs).trans h
    have h2 := Finset.card_le_card this
    have h3 : (Finset.univ.filter fun s : Fin n => s ≤ r).card = r.val + 1 := by
      have : (Finset.univ.filter fun s : Fin n => s ≤ r) = Finset.Iic r := by ext; simp
      rw [this, Fin.card_Iic]
    omega
  · intro h
    by_contra hc
    have : (Finset.univ.filter fun s => f (π s) ≤ t) ⊆ (Finset.univ.filter fun s : Fin n => s < r) := by
      intro s hs
      simp only [Finset.mem_filter, Finset.mem_univ, true_and] at hs ⊢
      by_contra hsr
      exact hc ((hm (not_lt.1 hsr)).trans hs)
    have h2 := Finset.card_le_card this
    have h3 : (Finset.univ.filter fun s : Fin n => s < r).card = r.val := by
      have : (Finset.univ.filter fun s : Fin n => s < r) = Finset.Iio r := by ext; simp
      rw [this, Fin.card_Iio]
    omega

/-- Two elements with the same bounds below `⊤` are equal. -/
theorem eq_of_le_iff (a b : EReal) (h : ∀ t, t < ⊤ → (a ≤ t ↔ b ≤ t)) : a = b := by
  apply le_antisymm
  · rcases lt_or_eq_of_le (le_top (a := b)) with hb | hb
    · exact (h b hb).2 le_rfl
    · rw [hb]; exact le_top
  · rcases lt_or_eq_of_le (le_top (a := a)) with ha | ha
    · exact (h a ha).1 le_rfl
    · rw [ha]; exact le_top

/-- Two ascending rearrangements of one table hold the same values. -/
theorem sorted_unique {n : Nat} (f : Fin n → EReal) (π ρ : Fin n → Fin n) (hπ : Function.Bijective π)
    (hρ : Function.Bijective ρ) (hm : Monotone (f ∘ π)) (hm' : Monotone (f ∘ ρ)) (r : Fin n) : f (π r) = f (ρ r) :=
  eq_of_le_iff _ _ fun t _ => by rw [sorted_le_iff f π hπ hm, sorted_le_iff f ρ hρ hm']

/-- The least entry of a table from which `r` least entries have been taken out is entry `r` in ascending order. -/
theorem inf_eq_sorted {n : Nat} (f y : Fin n → EReal) (π : Fin n → Fin n) (hπ : Function.Bijective π)
    (hm : Monotone (f ∘ π)) (r : Fin n) (hy : ∀ t, t < ⊤ → below y t = below f t - r.val) :
    Finset.univ.inf y = f (π r) :=
  eq_of_le_iff _ _ fun t ht => by rw [inf_le_iff y t ht, hy t ht, sorted_le_iff f π hπ hm]; omega

/-- The first position with the least entry. -/
theorem exists_first_inf {n : Nat} (hn : 0 < n) (y : Fin n → EReal) :
    ∃ j, y j = Finset.univ.inf y ∧ ∀ i, y i = Finset.univ.inf y → j ≤ i := by
  classical
  haveI : Nonempty (Fin n) := ⟨⟨0, hn⟩⟩
  obtain ⟨j0, hj0⟩ := exists_eq_ciInf_of_finite (f := y)
  have hinf : Finset.univ.inf y = ⨅ i, y i := by
    rw [Finset.inf_eq_iInf]; simp
  have hne : (Finset.univ.filter fun i => y i = Finset.univ.inf y).Nonempty := ⟨j0, by simp [hinf, hj0]⟩
  refine ⟨(Finset.univ.filter fun i => y i = Finset.univ.inf y).min' hne, ?_, ?_⟩
  · have := Finset.min'_mem _ hne
    simpa using this
  · intro i hi
    exact Finset.min'_le _ _ (by simpa using hi)

/-! ### The stable sort by a descending key -/

/-- Position `k` sorts before `k'`: its key is greater. -/
def gtKey {n : Nat} (u : Fin n → EReal) (k k' : Fin n) : Bool := FloatOps.cmpfTotal (F := Ideal) (φ := .f32) .gt (u k) (u k') == 1#1

theorem gtKey_iff {n : Nat} (u : Fin n → EReal) (k k' : Fin n) : gtKey u k k' = true ↔ u k' < u k := by
  show (BitVec.ofBool (decide (u k' < u k)) == 1#1) = true ↔ _
  by_cases h : u k' < u k <;> simp [h]

/-- The source of place `r` of the sort. -/
def place {n : Nat} (u : Fin n → EReal) (r : Fin n) : Fin n := sortedFrom (gtKey u) r

theorem place_bijective {n : Nat} (u : Fin n → EReal) : Function.Bijective (place u) :=
  ⟨sortedFrom_injective _, sortedFrom_surjective _⟩

/-- A stable sort is a sort by the key and then the position. -/
theorem insertBefore_stable {n : Nat} (u : Fin n → EReal) (a : Fin n) (l : List (Fin n))
    (hl : l.Pairwise fun b c => u c < u b ∨ (u b = u c ∧ b < c)) (ha : ∀ b ∈ l, a < b) :
    (insertBefore (gtKey u) a l).Pairwise fun b c => u c < u b ∨ (u b = u c ∧ b < c) := by
  induction l with
  | nil => exact List.pairwise_singleton _ _
  | cons b l ih =>
    rw [List.pairwise_cons] at hl
    unfold insertBefore
    split
    · next h =>
      rw [gtKey_iff] at h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl h
      · exact hl.1 c hc'
    · next h =>
      have hba : u b ≤ u a := by
        by_contra hc
        exact h ((gtKey_iff u b a).2 (not_le.1 hc))
      have hab : u b < u a ∨ (u a = u b ∧ a < b) := by
        rcases lt_or_eq_of_le hba with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · have hc2 := ha c (List.mem_cons_of_mem _ hc')
        rcases hl.1 c hc' with h' | ⟨h', _⟩
        · exact Or.inl (h'.trans_le hba)
        · rcases hab with h'' | ⟨h'', _⟩
          · exact Or.inl (h' ▸ h'')
          · exact Or.inr ⟨h''.trans h', hc2⟩

theorem stableSort_stable {n : Nat} (u : Fin n → EReal) (l : List (Fin n)) (hl : l.Pairwise (· < ·)) :
    (stableSort (gtKey u) l).Pairwise fun b c => u c < u b ∨ (u b = u c ∧ b < c) := by
  induction l with
  | nil => exact List.Pairwise.nil
  | cons a l ih =>
    rw [List.pairwise_cons] at hl
    unfold stableSort
    exact insertBefore_stable u a _ (ih hl.2) fun b hb => hl.1 b ((perm_stableSort _ l).mem_iff.mp hb)

/-- Of two places the earlier one's key is greater, or the keys are equal and its position is the earlier one. -/
theorem place_order {n : Nat} (u : Fin n → EReal) (r s : Fin n) (h : r < s) :
    u (place u s) < u (place u r) ∨ (u (place u r) = u (place u s) ∧ place u r < place u s) := by
  have hp := List.pairwise_iff_get.mp (stableSort_stable u (List.finRange n) (List.pairwise_lt_finRange n))
  exact hp (r.cast (length_sortPositions n (gtKey u)).symm) (s.cast (length_sortPositions n (gtKey u)).symm) h

theorem place_antitone {n : Nat} (u : Fin n → EReal) (r s : Fin n) (h : r ≤ s) : u (place u s) ≤ u (place u r) := by
  rcases lt_or_eq_of_le h with h | h
  · rcases place_order u r s h with h' | h'
    · exact h'.le
    · exact h'.1.ge
  · rw [h]

/-- A table has an ascending rearrangement. -/
theorem exists_sorted {n : Nat} (f : Fin n → EReal) : ∃ π : Fin n → Fin n, Function.Bijective π ∧ Monotone (f ∘ π) :=
  ⟨place fun i => -f i, place_bijective _, fun r s h => EReal.neg_le_neg_iff.1 (place_antitone (fun i => -f i) r s h)⟩

theorem place_eq {n : Nat} (u : Fin n → EReal) (r : Fin n) : place u r = sortedFrom (gtKey u) r := rfl

attribute [irreducible] place

end Cert.Order
end
-- ==== Proof.Spec.lean ====
/-
  What the two programs compute, written once: the clustering of one batch row over the extended reals. Token `i` is
  `X i`, its channels are summed over; `nz` is the noise added to the densities.
-/
module

public import proofs.«01_k».proof.Proof.Order
public import Idealize.ShloMosaic.Lib.IdealHost
public import Idealize.ShloMosaic.PureOps.Ideal.Laws

@[expose] public section

noncomputable section

namespace Cert.Spec

open Idealize.ShloMosaic Cert.Order

/-! ### The constants -/

/-- The divisor of a distance, the square root of the number of channels as the programs print it. -/
def cRoot : EReal := Ideal.ofBits .f32 0x419CC471#32
def cTwo : EReal := Ideal.ofBits .f32 0x40000000#32
def cNine : EReal := Ideal.ofBits .f32 0x41100000#32
def cEps : EReal := Ideal.ofBits .f32 0x358637BD#32

theorem cRoot_eq : cRoot = ((10273905 / 524288 : ℝ) : EReal) := by
  unfold cRoot
  simp [Ideal.ofBits, Ideal.ieee, -EReal.coe_mul]; norm_num

theorem cEps_nonneg : 0 ≤ cEps := by
  have : cEps = ((8796093 / 8796093022208 : ℝ) : EReal) := by
    unfold cEps
    simp [Ideal.ofBits, Ideal.ieee, -EReal.coe_mul]; norm_num
  rw [this]
  exact_mod_cast (by positivity : (0 : ℝ) ≤ 8796093 / 8796093022208)

theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-! ### The distance of a squared distance -/

theorem sqrt_coe (r : ℝ) : Ideal.sqrt (r : EReal) = if r < 0 then ⊥ else (Real.sqrt r : EReal) := rfl

theorem sqrt_mono : Monotone Ideal.sqrt := by
  intro a b h
  induction a using EReal.rec with
  | bot => exact bot_le
  | top => rw [top_le_iff.1 h]
  | coe a =>
    induction b using EReal.rec with
    | bot => simp at h
    | top => exact le_top
    | coe b =>
      have h' : a ≤ b := by exact_mod_cast h
      rw [sqrt_coe, sqrt_coe]
      split
      · exact bot_le
      · split
        · next h1 h2 => exact absurd (h'.trans_lt h2) h1
        · exact_mod_cast Real.sqrt_le_sqrt h'

def sc (y : EReal) : EReal := Ideal.div (Ideal.sqrt y) cRoot

theorem sc_eq (y : EReal) : sc y = Ideal.sqrt y * ((1 / (10273905 / 524288) : ℝ) : EReal) := by
  unfold sc
  rw [cRoot_eq, Ideal.div_coe (by norm_num)]

theorem sc_mono : Monotone sc := by
  intro a b h
  rw [sc_eq, sc_eq]
  apply mul_le_mul_of_nonneg_right (sqrt_mono h)
  exact_mod_cast (by norm_num : (0 : ℝ) ≤ 1 / (10273905 / 524288))

theorem sc_bot : sc ⊥ = ⊥ := by
  rw [sc_eq]
  show (⊥ : EReal) * _ = ⊥
  exact EReal.bot_mul_coe_of_pos (by norm_num)

theorem sc_nonneg (y : EReal) (h : 0 ≤ y) : 0 ≤ sc y := by
  have h0 : sc 0 = 0 := by
    rw [sc_eq]
    have : Ideal.sqrt 0 = 0 := by
      show Ideal.sqrt ((0 : ℝ) : EReal) = 0
      rw [sqrt_coe]; simp
    rw [this, zero_mul]
  rw [← h0]
  exact sc_mono h

/-! ### The clustering of one row -/

variable (X : Fin 1568 → Fin 384 → EReal) (W : Fin 384 → EReal) (B : EReal) (nz : Fin 1568 → EReal)

def sq (i : Fin 1568) : EReal := ∑ c, X i c * X i c
def dt (i j : Fin 1568) : EReal := ∑ c, X i c * X j c
def d2 (i j : Fin 1568) : EReal := max (sq X i + sq X j - cTwo * dt X i j) 0
def dist (i j : Fin 1568) : EReal := sc (d2 X i j)

/-- The tokens from the nearest to token `i` to the farthest. -/
def nearest (i : Fin 1568) : Fin 1568 → Fin 1568 := place fun j => -dist X i j
def near9 (i : Fin 1568) : EReal := ∑ r : Fin 9, dist X i (nearest X i (r.castLE (by norm_num))) * dist X i (nearest X i (r.castLE (by norm_num)))
def dens (i : Fin 1568) : EReal := Ideal.exp (-Ideal.div (near9 X i) cNine) + nz i
def dmax : EReal := Finset.univ.sup fun p : Fin 1568 × Fin 1568 => dist X p.1 p.2
def gap (i : Fin 1568) : EReal := Finset.univ.inf fun j => if dens X nz i < dens X nz j then dist X i j else dmax X
def score (i : Fin 1568) : EReal := gap X nz i * dens X nz i
/-- The token of cluster `r`. -/
def centre (r : Fin 196) : Fin 1568 := place (score X nz) (r.castLE (by norm_num))
/-- The first of the clusters nearest to token `j`. -/
def near (j : Fin 1568) : Fin 196 := (exists_first_inf (by norm_num) fun r => dist X (centre X nz r) j).choose
open Classical in
def clu (j : Fin 1568) : Fin 196 := if h : ∃ r, centre X nz r = j then h.choose else near X nz j
def wt (i : Fin 1568) : EReal := Ideal.exp (∑ c, X i c * W c + B)
def aw (r : Fin 196) : EReal := (∑ j, if clu X nz j = r then wt X W B j else 0) + cEps
def norm (j : Fin 1568) : EReal := Ideal.div (wt X W B j) (aw X W B nz (clu X nz j))
def merged (r : Fin 196) (c : Fin 384) : EReal := ∑ j, if clu X nz j = r then X j c * norm X W B nz j else 0

theorem d2_nonneg (i j : Fin 1568) : 0 ≤ d2 X i j := le_max_right _ _
theorem dist_nonneg (i j : Fin 1568) : 0 ≤ dist X i j := sc_nonneg _ (d2_nonneg X i j)

theorem dmax_eq : dmax X = sc (Finset.univ.sup fun p : Fin 1568 × Fin 1568 => d2 X p.1 p.2) := by
  unfold dmax dist
  rw [Finset.comp_sup_eq_sup_comp_of_is_total sc sc_mono sc_bot]
  rfl

theorem near_spec (j : Fin 1568) :
    dist X (centre X nz (near X nz j)) j = Finset.univ.inf (fun r => dist X (centre X nz r) j) ∧
      ∀ i, dist X (centre X nz i) j = Finset.univ.inf (fun r => dist X (centre X nz r) j) → near X nz j ≤ i :=
  (exists_first_inf (by norm_num) fun r => dist X (centre X nz r) j).choose_spec

theorem centre_injective : Function.Injective (centre X nz) := fun a b h => by
  have := (place_bijective (score X nz)).1 h
  exact Fin.ext (by simpa using congrArg Fin.val this)

theorem clu_centre (r : Fin 196) : clu X nz (centre X nz r) = r := by
  unfold clu
  have h : ∃ r', centre X nz r' = centre X nz r := ⟨r, rfl⟩
  rw [dif_pos h]
  exact centre_injective X nz h.choose_spec

theorem clu_other (j : Fin 1568) (h : ∀ r, centre X nz r ≠ j) : clu X nz j = near X nz j := by
  unfold clu
  rw [dif_neg (by rintro ⟨r, hr⟩; exact h r hr)]

theorem exp_nonneg (y : EReal) : 0 ≤ Ideal.exp y := by
  induction y using EReal.rec with
  | bot => exact le_rfl
  | top => exact le_top
  | coe a =>
    show (0 : EReal) ≤ ((Real.exp a : ℝ) : EReal)
    exact_mod_cast (Real.exp_pos a).le

theorem nonneg_sup {ι : Type} [Fintype ι] (f : ι → EReal) (i : ι) (h : 0 ≤ f i) : 0 ≤ Finset.univ.sup f :=
  h.trans (Finset.le_sup (Finset.mem_univ i))

theorem dmax_nonneg : 0 ≤ dmax X :=
  nonneg_sup (fun p : Fin 1568 × Fin 1568 => dist X p.1 p.2) (0, 0) (dist_nonneg X 0 0)

theorem dens_nonneg (hnz : ∀ i, 0 ≤ nz i) (i : Fin 1568) : 0 ≤ dens X nz i := add_nonneg (exp_nonneg _) (hnz i)

theorem score_nonneg (hnz : ∀ i, 0 ≤ nz i) (i : Fin 1568) : 0 ≤ score X nz i := by
  apply mul_nonneg _ (dens_nonneg X nz hnz i)
  apply Finset.le_inf
  intro j _
  split
  · exact dist_nonneg X i j
  · exact dmax_nonneg X

theorem score_gt (hnz : ∀ i, 0 ≤ nz i) (i : Fin 1568) : ⊥ < score X nz i :=
  lt_of_lt_of_le EReal.bot_lt_zero (score_nonneg X nz hnz i)

/-- The nine nearest by any ascending rearrangement of the squared distances. -/
theorem near9_eq (i : Fin 1568) (π : Fin 1568 → Fin 1568) (hπ : Function.Bijective π) (hm : Monotone (d2 X i ∘ π)) :
    near9 X i = ∑ r : Fin 9, sc (d2 X i (π (r.castLE (by norm_num)))) * sc (d2 X i (π (r.castLE (by norm_num)))) := by
  have h : ∀ r, dist X i (nearest X i r) = dist X i (π r) := by
    intro r
    apply sorted_unique (dist X i) _ _ (place_bijective _) hπ
    · intro a b hab
      exact EReal.neg_le_neg_iff.1 (place_antitone (fun j => -dist X i j) a b hab)
    · exact fun a b hab => sc_mono (hm hab)
  unfold near9
  simp only [h]
  rfl

/-! ### The rounds -/

/-- The first position with the least entry, found as a word, and what masking it gives. -/
theorem mask_first {n : Nat} (hn : n < 2 ^ 30) (h0 : 0 < n) (y : Fin n → EReal) [DecidablePred fun x => y x = Finset.univ.inf y] :
    ∃ j0 : Fin n, y j0 = Finset.univ.inf y ∧ (∀ i, y j0 ≤ y i) ∧
      (Finset.univ : Finset (Fin n)).fold IntOp.minsi 2147483647#32 (fun x => if y x = Finset.univ.inf y then BitVec.ofNat 32 x.val else BitVec.ofNat 32 n)
        = BitVec.ofNat 32 j0.val := by
  obtain ⟨j0, h1, h2⟩ := exists_first_inf h0 y
  refine ⟨j0, h1, fun i => ?_, ?_⟩
  · rw [h1]; exact Finset.inf_le (Finset.mem_univ i)
  · exact fold_minsi_first (fun i : Fin n => i.val) (fun i => i.isLt.trans hn) n hn (fun i => i.isLt) (fun x => y x = Finset.univ.inf y) j0 h1
      fun i hi => h2 i hi

theorem cmpi_eq_ofNat (a b : Nat) (ha : a < 2 ^ 32) (hb : b < 2 ^ 32) {α : Type} (s t : α) :
    Scalar.select (IntOp.cmpi .eq (BitVec.ofNat 32 a) (BitVec.ofNat 32 b)) s t = if a = b then s else t := by
  unfold Scalar.select IntOp.cmpi
  by_cases h : a = b
  · simp [h]
  · have : (BitVec.ofNat 32 a) ≠ BitVec.ofNat 32 b := by
      intro h'
      have := congrArg BitVec.toNat h'
      rw [BitVec.toNat_ofNat, BitVec.toNat_ofNat, Nat.mod_eq_of_lt ha, Nat.mod_eq_of_lt hb] at this
      exact h this
    simp only [beq_eq_false_iff_ne.2 this, h, if_false, BitVec.ofBool_false]
    exact if_neg (by decide)

/-- The greatest entry that the places before `r` have left is the entry of place `r`. -/
theorem left_sup {n : Nat} (u : Fin n → EReal) (hu : ∀ i, ⊥ < u i) (r : Fin n) (y : Fin n → EReal)
    (hy1 : ∀ s : Fin n, s < r → y (place u s) = ⊥) (hy2 : ∀ s : Fin n, r ≤ s → y (place u s) = u (place u s)) :
    Finset.univ.sup y = u (place u r) ∧ y (place u r) = u (place u r) ∧ ∀ j, y j = u (place u r) → place u r ≤ j := by
  have hr : y (place u r) = u (place u r) := hy2 r le_rfl
  refine ⟨?_, hr, ?_⟩
  · apply le_antisymm
    · apply Finset.sup_le
      intro j _
      obtain ⟨s, rfl⟩ := (place_bijective u).2 j
      rcases lt_or_ge s r with h | h
      · rw [hy1 s h]; exact bot_le
      · rw [hy2 s h]; exact place_antitone u r s h
    · rw [← hr]; exact Finset.le_sup (Finset.mem_univ _)
  · intro j hj
    obtain ⟨s, rfl⟩ := (place_bijective u).2 j
    rcases lt_or_ge s r with h | h
    · rw [hy1 s h] at hj
      exact absurd hj (hu _).ne
    · rw [hy2 s h] at hj
      rcases lt_or_eq_of_le h with hlt | rfl
      · rcases place_order u r s hlt with h' | h'
        · exact absurd hj h'.ne
        · exact h'.2.le
      · exact le_rfl

end Cert.Spec
end
-- ==== Proof.RefOps.lean ====
/-
  The reference's sorts, reshapes, gathers, scatters and arg-min read at an index.
-/
module

public import Idealize.ShloMosaic.PureOps.Ideal.Laws
public import Idealize.ShloMosaic.Lib.Pointwise
public import proofs.«01_k».proof.Proof.Order

@[expose] public section

noncomputable section

namespace Cert.Ops

open Idealize.ShloMosaic
open Cert.Order

/-! ### The greatest entries of a row -/

theorem along3 {A N M : Nat} (b : Fin A) (i : Fin N) (k j : Fin M) :
    Shape.Idx.along (s := ⟨3, ![A, N, M]⟩) (ix3 b i j) (2 : Fin 3) k = ix3 b i k := by
  funext a
  match a with
  | ⟨0, _⟩ => rfl
  | ⟨1, _⟩ => rfl
  | ⟨2, _⟩ => rfl

theorem along2 {A M : Nat} (b : Fin A) (k j : Fin M) :
    Shape.Idx.along (s := ⟨2, ![A, M]⟩) (ix2 b j) (1 : Fin 2) k = ix2 b k := by
  funext a
  match a with
  | ⟨0, _⟩ => rfl
  | ⟨1, _⟩ => rfl

theorem slice3 {A N M K : Nat} {α : Type} (y : (⟨3, ![A, N, M]⟩ : Shape).Idx → α) (hK : K ≤ M)
    (h : (⟨3, ![A, N, M]⟩ : Shape).Slices (fun _ => 0) ⟨3, ![A, N, K]⟩) (b : Fin A) (i : Fin N) (r : Fin K) :
    extractStridedSlice ⟨3, ![A, N, K]⟩ (fun _ => 0) y h (ix3 b i r) = y (ix3 b i (r.castLE hK)) := by
  refine congrArg y ?_
  funext a
  match a with
  | ⟨0, _⟩ => exact Fin.ext (Nat.zero_add _)
  | ⟨1, _⟩ => exact Fin.ext (Nat.zero_add _)
  | ⟨2, _⟩ => exact Fin.ext (Nat.zero_add _)

theorem slice2 {A M K : Nat} {α : Type} (y : (⟨2, ![A, M]⟩ : Shape).Idx → α) (hK : K ≤ M)
    (h : (⟨2, ![A, M]⟩ : Shape).Slices (fun _ => 0) ⟨2, ![A, K]⟩) (b : Fin A) (r : Fin K) :
    extractStridedSlice ⟨2, ![A, K]⟩ (fun _ => 0) y h (ix2 b r) = y (ix2 b (r.castLE hK)) := by
  refine congrArg y ?_
  funext a
  match a with
  | ⟨0, _⟩ => exact Fin.ext (Nat.zero_add _)
  | ⟨1, _⟩ => exact Fin.ext (Nat.zero_add _)

theorem sort3 {A N M : Nat} {α β : Type} (gt : α × β → α × β → BitVec 1) (x : (⟨3, ![A, N, M]⟩ : Shape).Idx → α)
    (y : (⟨3, ![A, N, M]⟩ : Shape).Idx → β) (b : Fin A) (i : Fin N) (r : Fin M) :
    (Host.sort2 ⟨3, ![A, N, M]⟩ 2 gt x y).1 (ix3 b i r)
      = x (ix3 b i (sortedFrom (fun k k' => gt (x (ix3 b i k), y (ix3 b i k)) (x (ix3 b i k'), y (ix3 b i k')) == 1#1) r)) := by
  unfold Host.sort2
  rw [dif_pos (show 2 < (⟨3, ![A, N, M]⟩ : Shape).rank from Nat.lt_succ_self 2)]
  refine (congrArg x (along3 b i _ r)).trans ?_
  refine congrArg (fun f => x (ix3 b i (sortedFrom (n := M) f r))) ?_
  funext k k'
  have e1 := along3 (A := A) (N := N) b i k r
  have e2 := along3 (A := A) (N := N) b i k' r
  exact congrArg₂ (fun u v => gt (x u, y u) (x v, y v) == 1#1) e1 e2

theorem sort2 {A M : Nat} {α β : Type} (gt : α × β → α × β → BitVec 1) (x : (⟨2, ![A, M]⟩ : Shape).Idx → α)
    (y : (⟨2, ![A, M]⟩ : Shape).Idx → β) (b : Fin A) (r : Fin M) :
    (Host.sort2 ⟨2, ![A, M]⟩ 1 gt x y).2 (ix2 b r)
      = y (ix2 b (sortedFrom (fun k k' => gt (x (ix2 b k), y (ix2 b k)) (x (ix2 b k'), y (ix2 b k')) == 1#1) r)) := by
  unfold Host.sort2
  rw [dif_pos (show 1 < (⟨2, ![A, M]⟩ : Shape).rank from Nat.lt_succ_self 1)]
  refine (congrArg y (along2 b _ r)).trans ?_
  refine congrArg (fun f => y (ix2 b (sortedFrom (n := M) f r))) ?_
  funext k k'
  have e1 := along2 (A := A) b k r
  have e2 := along2 (A := A) b k' r
  exact congrArg₂ (fun u v => gt (x u, y u) (x v, y v) == 1#1) e1 e2

theorem top3 {A N M K : Nat} (x : FVec Ideal ⟨3, ![A, N, M]⟩ .f32) (hK : K ≤ M)
    (h : (⟨3, ![A, N, M]⟩ : Shape).Slices (fun _ => 0) ⟨3, ![A, N, K]⟩) (b : Fin A) (i : Fin N) (r : Fin K) :
    (Host.topK ⟨3, ![A, N, K]⟩ 2 (FloatOps.cmpfTotal (F := Ideal) (φ := .f32) .gt) x h).1 (ix3 b i r)
      = x (ix3 b i (place (fun j => x (ix3 b i j)) (r.castLE hK))) := by
  unfold Host.topK
  dsimp only
  refine (slice3 _ hK h b i r).trans ?_
  rw [sort3, place_eq]
  rfl

theorem top2 {A M K : Nat} (x : FVec Ideal ⟨2, ![A, M]⟩ .f32) (hK : K ≤ M)
    (h : (⟨2, ![A, M]⟩ : Shape).Slices (fun _ => 0) ⟨2, ![A, K]⟩) (b : Fin A) (r : Fin K) :
    (Host.topK ⟨2, ![A, K]⟩ 1 (FloatOps.cmpfTotal (F := Ideal) (φ := .f32) .gt) x h).2 (ix2 b r)
      = BitVec.ofNat 32 (place (fun j => x (ix2 b j)) (r.castLE hK)).val := by
  unfold Host.topK
  dsimp only
  refine (slice2 _ hK h b r).trans ?_
  rw [sort2, place_eq]
  rfl

/-! ### Reshapes -/

theorem cast_read {s t : Shape} {α : Type} (x : s.Idx → α) (h : s.ShapeCasts t) (j : t.Idx) (i : s.Idx)
    (e : (s.rowMajor i).val = (t.rowMajor j).val) : shapeCast t x h j = x i :=
  congrArg x (Shape.reshapeEquiv_eq_of_vals h j i _ _ e rfl rfl)

theorem val1 {A : Nat} (a : Fin A) : ((⟨1, ![A]⟩ : Shape).rowMajor (ix1 a)).val = a.val := Shape.rowMajor_val_one _
theorem val2 {A B : Nat} (a : Fin A) (b : Fin B) : ((⟨2, ![A, B]⟩ : Shape).rowMajor (ix2 a b)).val = a.val * B + b.val :=
  Shape.rowMajor_val_two _
theorem val3 {A B C : Nat} (a : Fin A) (b : Fin B) (c : Fin C) :
    ((⟨3, ![A, B, C]⟩ : Shape).rowMajor (ix3 a b c)).val = a.val * (B * C) + (b.val * C + c.val) := by
  refine (Shape.rowMajor_val_three _).trans ?_
  show (a.val * B + b.val) * C + c.val = _
  ring

/-- The greatest of a table and of the same table laid flat. -/
theorem sup_flat {A N M P : Nat} (hP : P = N * M) (x : (⟨3, ![A, N, M]⟩ : Shape).Idx → EReal)
    (h : (⟨3, ![A, N, M]⟩ : Shape).ShapeCasts ⟨2, ![A, P]⟩) (b : Fin A) :
    (Finset.univ.sup fun k : Fin P => shapeCast ⟨2, ![A, P]⟩ x h (ix2 b k))
      = Finset.univ.sup fun p : Fin N × Fin M => x (ix3 b p.1 p.2) := by
  subst hP
  apply le_antisymm
  · apply Finset.sup_le
    intro k _
    have h0 : 0 < N * M := Nat.lt_of_le_of_lt (Nat.zero_le _) k.isLt
    have hM : 0 < M := Nat.pos_of_ne_zero fun e => by simp [e] at h0
    have h1 : k.val / M < N := Nat.div_lt_of_lt_mul (lt_of_lt_of_eq k.isLt (Nat.mul_comm N M))
    have h2 : k.val % M < M := Nat.mod_lt _ hM
    rw [cast_read x h (ix2 b k) (ix3 b ⟨k.val / M, h1⟩ ⟨k.val % M, h2⟩)
      (by rw [val3, val2]; simp only []; rw [Nat.div_add_mod'])]
    exact Finset.le_sup (f := fun p : Fin N × Fin M => x (ix3 b p.1 p.2)) (Finset.mem_univ ((⟨k.val / M, h1⟩, ⟨k.val % M, h2⟩) : Fin N × Fin M))
  · apply Finset.sup_le
    rintro ⟨i, j⟩ _
    have hk : i.val * M + j.val < N * M := by
      have := i.isLt; have := j.isLt
      calc i.val * M + j.val < i.val * M + M := by omega
        _ = (i.val + 1) * M := by ring
        _ ≤ N * M := Nat.mul_le_mul_right _ (by omega)
    have e := cast_read x h (ix2 b ⟨i.val * M + j.val, hk⟩) (ix3 b i j) (by rw [val3, val2])
    show x (ix3 b i j) ≤ _
    rw [← e]
    exact Finset.le_sup (f := fun k : Fin (N * M) => shapeCast ⟨2, ![A, N * M]⟩ x h (ix2 b k)) (Finset.mem_univ _)

/-! ### The first least entry -/

/-- Smaller, or equal and at a smaller position. -/
def Before (p q : EReal × BitVec 32) : Prop := p.1 < q.1 ∨ (p.1 = q.1 ∧ p.2.toInt ≤ q.2.toInt)

theorem Before.trans {p q r : EReal × BitVec 32} (h : Before p q) (h' : Before q r) : Before p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

theorem Before.refl (p : EReal × BitVec 32) : Before p p := Or.inr ⟨rfl, le_rfl⟩

/-- A fold that keeps the earlier of two pairs ends in a pair of the list that is before all of them. -/
theorem foldl_before (red : EReal × BitVec 32 → EReal × BitVec 32 → EReal × BitVec 32)
    (h : ∀ p q, (red p q = p ∧ Before p q) ∨ (red p q = q ∧ Before q p)) (l : List (EReal × BitVec 32)) (init : EReal × BitVec 32) :
    (l.foldl red init = init ∨ l.foldl red init ∈ l) ∧ Before (l.foldl red init) init ∧ ∀ q ∈ l, Before (l.foldl red init) q := by
  induction l generalizing init with
  | nil => exact ⟨Or.inl rfl, Before.refl _, fun q hq => by cases hq⟩
  | cons a l ih =>
    rw [List.foldl_cons]
    obtain ⟨h1, h2, h3⟩ := ih (red init a)
    rcases h init a with ⟨e, k⟩ | ⟨e, k⟩
    · rw [e] at h1 h2 h3 ⊢
      refine ⟨?_, h2, ?_⟩
      · rcases h1 with h1 | h1
        · exact Or.inl h1
        · exact Or.inr (List.mem_cons_of_mem _ h1)
      · intro q hq
        rcases List.mem_cons.1 hq with rfl | hq
        · exact h2.trans k
        · exact h3 q hq
    · rw [e] at h1 h2 h3 ⊢
      refine ⟨?_, h2.trans k, ?_⟩
      · rcases h1 with h1 | h1
        · exact Or.inr (List.mem_cons.2 (Or.inl h1))
        · exact Or.inr (List.mem_cons_of_mem _ h1)
      · intro q hq
        rcases List.mem_cons.1 hq with rfl | hq
        · exact h2
        · exact h3 q hq

theorem drop3 {A N M : Nat} (h : (⟨3, ![A, N, M]⟩ : Shape).ReducesTo [1] ⟨2, ![A, M]⟩) (b : Fin A) (r : Fin N) (j : Fin M) :
    h.drop (ix3 b r j) = ix2 b j := by
  funext a
  match a with
  | ⟨0, _⟩ => rfl
  | ⟨1, _⟩ => rfl

theorem argmin_read {A N M : Nat} (hN0 : 0 < N) (hN : N ≤ 100000) (red : EReal × BitVec 32 → EReal × BitVec 32 → EReal × BitVec 32)
    (hred : ∀ p q, (red p q = p ∧ Before p q) ∨ (red p q = q ∧ Before q p))
    (x : FVec Ideal ⟨3, ![A, N, M]⟩ .f32)
    (y : IVec ⟨3, ![A, N, M]⟩ 32) (hy : ∀ b r j, y (ix3 b r j) = BitVec.ofNat 32 r.val) (u : Shape) (iv : FVec Ideal u .f32) (ii : IVec u 32) (hiv : ∀ k, iv k = ⊤) (hii : ∀ k, ii k = 0#32)
    (h : (⟨3, ![A, N, M]⟩ : Shape).ReducesTo [1] ⟨2, ![A, M]⟩) (hu : 0 < u.numel) (b : Fin A) (j : Fin M) (r0 : Fin N)
    (h1 : x (ix3 b r0 j) = Finset.univ.inf fun r => x (ix3 b r j))
    (h2 : ∀ r, x (ix3 b r j) = (Finset.univ.inf fun r => x (ix3 b r j)) → r0 ≤ r) :
    (Host.argReduce (F := Ideal) (φ := .f32) red x y iv ii h hu (ix2 b j)).2 = BitVec.ofNat 32 r0.val := by
  have toI : ∀ n : Nat, n < 2 ^ 31 → (BitVec.ofNat 32 n).toInt = (n : Int) := by
    intro n hn
    rw [BitVec.toInt_eq_toNat_of_lt (by rw [BitVec.toNat_ofNat]; omega), BitVec.toNat_ofNat]
    omega
  rw [Ideal.argReduce_eq_reduce2, Host.reduce2_eq_foldl_fiber, hiv, hii]
  obtain ⟨k1, k2, k3⟩ := foldl_before red hred (Host.argReduceFiber x y h (ix2 b j)) (⊤, 0#32)
  have hmem : ∀ r : Fin N, (x (ix3 b r j), BitVec.ofNat 32 r.val) ∈ Host.argReduceFiber x y h (ix2 b j) := by
    intro r
    unfold Host.argReduceFiber
    rw [List.mem_map]
    refine ⟨Shape.rowMajor _ (ix3 b r j), ?_, ?_⟩
    · rw [List.mem_filter]
      refine ⟨List.mem_finRange _, ?_⟩
      rw [Equiv.symm_apply_apply, drop3]
      exact decide_eq_true rfl
    · rw [Equiv.symm_apply_apply, hy]
  have hb := k3 _ (hmem r0)
  generalize hg : List.foldl red (⊤, 0#32) (Host.argReduceFiber x y h (ix2 b j)) = g at k1 k2 k3 hb ⊢
  rcases k1 with k1 | k1
  · rw [k1] at hb ⊢
    have htop : x (ix3 b r0 j) = ⊤ := by
      rcases hb with hb | ⟨hb, _⟩
      · exact absurd hb (not_lt.2 le_top)
      · exact hb.symm
    have hz : x (ix3 b ⟨0, hN0⟩ j) = Finset.univ.inf fun r => x (ix3 b r j) := by
      rw [← h1, htop]
      have : (Finset.univ.inf fun r => x (ix3 b r j)) ≤ x (ix3 b ⟨0, hN0⟩ j) := Finset.inf_le (f := fun r => x (ix3 b r j)) (Finset.mem_univ _)
      rw [← h1, htop] at this
      exact top_le_iff.1 this
    have h0 : r0.val = 0 := Nat.le_zero.1 (h2 _ hz)
    rw [h0]
  · unfold Host.argReduceFiber at k1
    rw [List.mem_map] at k1
    obtain ⟨n, hn, e⟩ := k1
    rw [List.mem_filter] at hn
    have hd := of_decide_eq_true hn.2
    generalize hi : (Shape.rowMajor (⟨3, ![A, N, M]⟩ : Shape)).symm n = i at hd e
    obtain ⟨b', r, j', rfl⟩ : ∃ b' r j', i = ix3 (n0 := A) (n1 := N) (n2 := M) b' r j' := ⟨_, _, _, eq_ix3 i⟩
    rw [drop3] at hd
    rw [hy] at e
    have hb' : b' = b := congrFun hd (0 : Fin 2)
    have hj' : j' = j := congrFun hd (1 : Fin 2)
    subst hb' hj'
    have e2 : g = (x (ix3 b' r j'), BitVec.ofNat 32 r.val) := e.symm
    rw [e2] at hb ⊢
    have hge : x (ix3 b' r0 j') ≤ x (ix3 b' r j') := by
      rw [h1]
      exact Finset.inf_le (f := fun r => x (ix3 b' r j')) (Finset.mem_univ _)
    rcases hb with hb | ⟨hb, hk⟩
    · exact absurd hb (not_lt.2 hge)
    · simp only at hb hk
      rw [toI _ (by omega), toI _ (by omega)] at hk
      have h3 : r0 ≤ r := h2 r (by rw [hb, h1])
      have : r0 = r := le_antisymm h3 (by omega)
      rw [this]

end Cert.Ops
end
-- ==== Proof.RefVal1.lean ====
/-
  The reference's first half read at an index: distances, densities and scores of one batch entry.
-/
module

public import proofs.«01_k».proof.Proof.RefLines
public import proofs.«01_k».proof.Proof.Spec
public import proofs.«01_k».proof.Proof.RefOps
public import Idealize.ShloMosaic.Lib.Pointwise

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Cert.Spec Cert.Order

/-- Batch entry `b` of the tokens. -/
abbrev XB (a0 : Vec Ideal S8x1568x384 .f32) (b : Fin 8) : Fin 1568 → Fin 384 → EReal := fun i c => a0 (ix3 b i c)

theorem e4_read (a0 : Vec Ideal S8x1568x384 .f32) (a1 : Vec Ideal S1x384 .f32) (a2 : Vec Ideal S1 .f32) (b : Fin 8) (i : Fin 1568) :
    e4 a0 a1 a2 (ix3 b i 0) = wt (XB a0 b) (fun c => a1 (ix2 0 c)) (a2 (ix1 0)) i := by
  pointwise [e4]
  rfl

theorem e20_read (a0 : Vec Ideal S8x1568x384 .f32) (b : Fin 8) (i j : Fin 1568) :
    e20 a0 (ix3 b i j) = dist (XB a0 b) i j := by
  pointwise [e20]
  rfl

theorem e28_read (a20 : Vec Ideal S8x1568x1568 .f32) (X : Fin 1568 → Fin 384 → EReal) (b : Fin 8)
    (h : ∀ i j, a20 (ix3 b i j) = dist X i j) (i : Fin 1568) : e28 a20 (ix2 b i) = Ideal.exp (-Ideal.div (near9 X i) cNine) := by
  pointwise [e28]
  have e : ∀ r : Fin 9, (Host.topK S8x1568x9 2 (FloatOps.cmpfTotal (F := Ideal) (φ := .f32) .gt) (Host.negf a20) sliceFits_S8x1568x1568_S8x1568x9).1
      (ix3 b i r) = -dist X i (nearest X i (r.castLE (by norm_num))) := by
    intro r
    refine (Cert.Ops.top3 (A := 8) (N := 1568) (M := 1568) (K := 9) (Host.negf a20) (by norm_num) _ b i r).trans ?_
    show -a20 _ = _
    rw [h]
    refine congrArg (fun f => -dist X i (place f (r.castLE (by norm_num)))) ?_
    funext j
    show -a20 _ = _
    rw [h]
  simp only [e, neg_neg]
  rfl

theorem e39_read (a28 a38 : Vec Ideal S8x1568 .f32) (X : Fin 1568 → Fin 384 → EReal) (b : Fin 8)
    (h : ∀ i, a28 (ix2 b i) = Ideal.exp (-Ideal.div (near9 X i) cNine)) (i : Fin 1568) :
    e39 a28 a38 (ix2 b i) = dens X (fun i => a38 (ix2 b i)) i := by
  pointwise [e39]
  rw [h]
  rfl

theorem uitofp_bit (p : Prop) [Decidable p] :
    FloatOps.uitofp (F := Ideal) .f32 (BitVec.ofBool (decide p)) = if p then (1 : EReal) else 0 := by
  by_cases h : p
  · rw [if_pos h, decide_eq_true h]
    show (((1 : ℕ) : ℝ) : EReal) = 1
    simp
  · rw [if_neg h, decide_eq_false h]
    show (((0 : ℕ) : ℝ) : EReal) = 0
    simp

theorem e45_read (a39 : Vec Ideal S8x1568 .f32) (b : Fin 8) (i j : Fin 1568) :
    e45 a39 (ix3 b i j) = if a39 (ix2 b i) < a39 (ix2 b j) then 1 else 0 := by
  pointwise [e45]
  exact uitofp_bit _

theorem e47_read (a20 : Vec Ideal S8x1568x1568 .f32) (X : Fin 1568 → Fin 384 → EReal) (b : Fin 8)
    (h20 : ∀ i j, a20 (ix3 b i j) = dist X i j) : e47 a20 (ix1 b) = dmax X := by
  have e := Cert.Ops.sup_flat (A := 8) (N := 1568) (M := 1568) (P := 2458624) (by norm_num) a20 shapeCasts_S8x1568x1568_S8x2458624 b
  unfold e47
  generalize shapeCast S8x2458624 a20 shapeCasts_S8x1568x1568_S8x2458624 = y at e ⊢
  pointwise []
  rw [ofBits_neg_inf]
  refine e.trans ?_
  unfold dmax
  refine congrArg (Finset.univ.sup) ?_
  funext p
  exact h20 p.1 p.2

theorem mask_eq (d m : EReal) (p : Prop) [Decidable p] :
    d * (if p then (1 : EReal) else 0) + m * (1 - (if p then (1 : EReal) else 0)) = if p then d else m := by
  by_cases h : p
  · have e : (1 : EReal) - 1 = 0 := EReal.sub_self (by decide) (by decide)
    simp [h, e]
  · simp [h]

theorem mix_read (mx : Vec Ideal S8 .f32) (a20 a45 : Vec Ideal S8x1568x1568 .f32) (b : Fin 8) (i j : Fin 1568) :
    (addf (mulf a20 a45) (mulf (broadcastInDim S8x1568x1568 ![0, 1, 2] bcast_S8x1x1_S8x1568x1568_0_1_2
      (broadcastInDim S8x1x1 ![0] bcast_S8_S8x1x1_0 mx)) (subf (broadcastInDim S8x1568x1568 ![] bcast_S_S8x1568x1568
      (constant (F := Ideal) S_ .f32 0x3F800000#32)) a45))) (ix3 b i j)
      = a20 (ix3 b i j) * a45 (ix3 b i j) + mx (ix1 b) * (1 - a45 (ix3 b i j)) := by
  pointwise []

theorem least_read (y : FVec Ideal S8x1568x1568 .f32) (b : Fin 8) (i : Fin 1568) :
    Host.reduce FloatOps.minimumf y (constant (F := Ideal) S_ .f32 0x7F800000#32) reducesTo_S8x1568x1568_S8x1568_d2 h_S_ (ix2 b i)
      = Finset.univ.inf fun j => y (ix3 b i j) := by
  pointwise []
  rw [ofBits_inf]
  exact fold_min_eq_inf _ _

theorem mul_read (y a : Vec Ideal S8x1568 .f32) (i : S8x1568.Idx) : mulf (F := Ideal) (φ := .f32) y a i = (y i * a i : EReal) := rfl

theorem e56_read (a20 a45 : Vec Ideal S8x1568x1568 .f32) (a39 : Vec Ideal S8x1568 .f32) (X : Fin 1568 → Fin 384 → EReal)
    (nz : Fin 1568 → EReal) (b : Fin 8) (h20 : ∀ i j, a20 (ix3 b i j) = dist X i j)
    (h39 : ∀ i, a39 (ix2 b i) = dens X nz i)
    (h45 : ∀ i j, a45 (ix3 b i j) = if dens X nz i < dens X nz j then 1 else 0) (i : Fin 1568) :
    e56 a20 a45 a39 (ix2 b i) = score X nz i := by
  unfold e56
  rw [mul_read, least_read, h39]
  unfold score gap
  refine congrArg (fun z : EReal => z * dens X nz i) ?_
  refine congrArg (fun f => Finset.univ.inf f) ?_
  funext j
  rw [mix_read, h20, h45, e47_read a20 X b h20]
  exact mask_eq _ _ _

theorem e14_read (a56 : Vec Ideal S8x1568 .f32) (X : Fin 1568 → Fin 384 → EReal) (nz : Fin 1568 → EReal) (b : Fin 8)
    (h : ∀ i, a56 (ix2 b i) = score X nz i) (r : Fin 196) : e14 a56 (ix2 b r) = BitVec.ofNat 32 (centre X nz r).val := by
  refine (Cert.Ops.top2 (A := 8) (M := 1568) (K := 196) a56 (by norm_num) _ b r).trans ?_
  refine congrArg (fun f => BitVec.ofNat 32 (place f (r.castLE (by norm_num))).val) ?_
  funext j
  exact h j

end Cert.ReferenceIdeal.Val
end
-- ==== Proof.RefVal2.lean ====
/-
  The reference's second half read at an index: the cluster of every token.
-/
module

public import proofs.«01_k».proof.Proof.RefLines
public import proofs.«01_k».proof.Proof.Spec
public import proofs.«01_k».proof.Proof.RefOps
public import Idealize.ShloMosaic.Lib.Pointwise
public import Idealize.ShloMosaic.Lib.Routing.OpsPair
public import Idealize.ShloMosaic.Lib.Routing.OpsSet

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Cert.Spec Cert.Order

theorem toInt_small (n : Nat) (h : n < 2 ^ 31) : (BitVec.ofNat 32 n).toInt = (n : Int) := by
  rw [BitVec.toInt_eq_toNat_of_lt (by rw [BitVec.toNat_ofNat]; omega), BitVec.toNat_ofNat]
  omega

theorem toInt_token (c : Fin 1568) : (BitVec.ofNat 32 c.val).toInt = (c.val : Int) := toInt_small _ (by omega)

theorem wrap_small (n : Nat) (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem e57_read (a14 : IVec S8x196 32) (b : Fin 8) (r : Fin 196) : e57 a14 (ix3 b r 0) = a14 (ix2 b r) := by
  pointwise [e57]

theorem eW_read (a57 : IVec S8x196x1 32) (b : Fin 8) (r : Fin 196) (n : Nat) (hn : n < 2 ^ 31) (h : a57 (ix3 b r 0) = BitVec.ofNat 32 n) :
    eW a57 (ix3 b r 0) = BitVec.ofNat 32 n := by
  pointwise [eW]
  rw [h]
  exact wrap_small n hn _

/-- The numbers of the gather that takes a row for every centre. -/
abbrev takeDims : GatherDims S8x1568x1568 S8x196x1 S8x196x1568 := gather_S8x1568x1568_S8x196x1_S8x196x1568_2_1_0_0_1_2_111568

theorem take_read (x : FVec Ideal S8x1568x1568 .f32) (idx : IVec S8x196x1 32) (b : Fin 8) (r : Fin 196) (j : Fin 1568) (n : Fin 1568)
    (h : idx (ix3 b r 0) = BitVec.ofNat 32 n.val) :
    Host.gather takeDims x idx (ix3 b r j) = x (ix3 b n j) := by
  refine congrArg x ?_
  funext a
  match a with
  | ⟨0, _⟩ => exact Fin.ext (by
      show takeDims.start (ix3 b r j) idx (0 : Fin 3) + takeDims.batchCoord (ix3 b r j) (0 : Fin 3) + takeDims.offCoord (ix3 b r j) (0 : Fin 3) = b.val
      rw [GatherDims.start_batching _ _ _ _ (by decide), GatherDims.offCoord_eq_zero _ _ _ (by decide)]
      unfold GatherDims.batchCoord
      rw [dif_pos (by decide), Nat.zero_add, Nat.add_zero]
      rfl)
  | ⟨1, _⟩ => exact Fin.ext (by
      show takeDims.start (ix3 b r j) idx (1 : Fin 3) + takeDims.batchCoord (ix3 b r j) (1 : Fin 3) + takeDims.offCoord (ix3 b r j) (1 : Fin 3) = n.val
      rw [GatherDims.batchCoord_eq_zero _ _ _ (by decide), GatherDims.offCoord_eq_zero _ _ _ (by decide)]
      unfold GatherDims.start
      rw [dif_pos (by decide)]
      have e : takeDims.siIdx (ix3 b r j) ⟨0, by decide⟩ = ix3 b r 0 := by
        funext a
        match a with
        | ⟨0, _⟩ => rfl
        | ⟨1, _⟩ => rfl
        | ⟨2, _⟩ => rfl
      have e' : (idx (takeDims.siIdx (ix3 b r j) ⟨0, by decide⟩)).toInt = (n.val : Int) := by
        rw [e, h, toInt_small _ (by omega)]
      show min (idx (takeDims.siIdx (ix3 b r j) ⟨0, by decide⟩)).toInt.toNat (1568 - 1) + 0 + 0 = n.val
      rw [e']
      omega)
  | ⟨2, _⟩ => exact Fin.ext (by
      show takeDims.start (ix3 b r j) idx (2 : Fin 3) + takeDims.batchCoord (ix3 b r j) (2 : Fin 3) + takeDims.offCoord (ix3 b r j) (2 : Fin 3) = j.val
      rw [GatherDims.batchCoord_eq_zero _ _ _ (by decide)]
      unfold GatherDims.start GatherDims.offCoord
      rw [dif_neg (by decide), dif_pos (by decide), Nat.zero_add]
      rfl)

theorem in_range (w : IVec S8x196x1 32) (b : Fin 8) (r : Fin 196) :
    (Host.reduce IntOp.andi (andi (cmpi .sge w (broadcastInDim S8x196x1 ![] bcast_S_S8x196x1 (constantI S_ 32 0#32)))
      (cmpi .sle w (broadcastInDim S8x196x1 ![0, 1, 2] bcast_S1x1x1_S8x196x1_0_1_2 (broadcastInDim S1x1x1 ![2] bcast_S1_S1x1x1_2
      (constantI S1 32 1567#32))))) (constantI S_ 1 1#1) reducesTo_S8x196x1_S8x196_d2 h_S_) (ix2 b r)
      = IntOp.andi (IntOp.andi (IntOp.cmpi .sge (w (ix3 b r 0)) 0#32) (IntOp.cmpi .sle (w (ix3 b r 0)) 1567#32)) 1#1 := by
  pointwise []
  rfl

theorem pick_read (k : IVec S8x196 1) (g z : FVec Ideal S8x196x1568 .f32) (b : Fin 8) (r : Fin 196) (j : Fin 1568) :
    select (broadcastInDim S8x196x1568 ![0, 1] bcast_S8x196_S8x196x1568_0_1 k) g z (ix3 b r j)
      = Scalar.select (k (ix2 b r)) (g (ix3 b r j)) (z (ix3 b r j)) := by
  pointwise []

theorem e58_read (a20 : Vec Ideal S8x1568x1568 .f32) (a57 : IVec S8x196x1 32) (b : Fin 8) (r : Fin 196) (j : Fin 1568) (n : Fin 1568)
    (h : a57 (ix3 b r 0) = BitVec.ofNat 32 n.val) : e58 a20 a57 (ix3 b r j) = a20 (ix3 b n j) := by
  have hw := eW_read a57 b r n.val (by omega) h
  have hg := take_read a20 (eW a57) b r j n hw
  unfold e58
  rw [pick_read, in_range, hw, hg]
  have h1 : IntOp.cmpi .sge (BitVec.ofNat 32 n.val) 0#32 = 1#1 := by
    unfold IntOp.cmpi
    have : BitVec.sle 0#32 (BitVec.ofNat 32 n.val) = true := by
      rw [BitVec.sle, decide_eq_true_iff, toInt_small n.val (by omega)]
      simp
    simp [this]
  have h2 : IntOp.cmpi .sle (BitVec.ofNat 32 n.val) 1567#32 = 1#1 := by
    unfold IntOp.cmpi
    have : BitVec.sle (BitVec.ofNat 32 n.val) 1567#32 = true := by
      rw [BitVec.sle, decide_eq_true_iff, toInt_small n.val (by omega)]
      have := n.isLt
      show (n.val : Int) ≤ 1567
      omega
    simp [this]
  rw [h1, h2]
  rfl

theorem red_before (p q : EReal × BitVec 32) :
    (reducer_argmin_f32_i32 (F := Ideal) p q = p ∧ Cert.Ops.Before p q) ∨ (reducer_argmin_f32_i32 (F := Ideal) p q = q ∧ Cert.Ops.Before q p) := by
  obtain ⟨x, k⟩ := p
  obtain ⟨y, l⟩ := q
  unfold Cert.Ops.Before
  have e : reducer_argmin_f32_i32 (F := Ideal) (x, k) (y, l)
      = (if x < y then x else y, if x < y ∨ (x = y ∧ k.toInt < l.toInt) then k else l) := by
    unfold reducer_argmin_f32_i32
    simp only [Ideal.cmpf_def, Ideal.cmp, Scalar.select, IntOp.ori, IntOp.andi, IntOp.cmpi]
    by_cases h1 : x < y <;> by_cases h2 : x = y <;> by_cases h3 : k.toInt < l.toInt <;> simp [h1, h2, h3, BitVec.slt]
  rw [e]
  simp only []
  rcases lt_trichotomy x y with h | h | h
  · left
    simp [h]
  · subst h
    by_cases h3 : k.toInt < l.toInt
    · left
      simp [h3, h3.le]
    · right
      simp [h3, not_lt.1 h3]
  · right
    simp [h, h.not_gt, h.ne']

theorem e59_eq (a58 : Vec Ideal S8x196x1568 .f32) : e59 a58 = fun j => (Host.argReduce reducer_argmin_f32_i32 a58 (iotaInDim S8x196x1568 32 1)
    (constant (F := Ideal) S_ .f32 0x7F800000#32) (constantI S_ 32 0#32) reducesTo_S8x196x1568_S8x1568_d1 h_S_ j).2 := rfl

theorem e59_read (a58 : Vec Ideal S8x196x1568 .f32) (b : Fin 8) (j : Fin 1568) (r0 : Fin 196)
    (h1 : a58 (ix3 b r0 j) = Finset.univ.inf fun r => a58 (ix3 b r j))
    (h2 : ∀ r, a58 (ix3 b r j) = (Finset.univ.inf fun r => a58 (ix3 b r j)) → r0 ≤ r) :
    e59 a58 (ix2 b j) = BitVec.ofNat 32 r0.val := by
  rw [e59_eq]
  have hiv : ∀ k : S_.Idx, constant (F := Ideal) S_ .f32 0x7F800000#32 k = (⊤ : EReal) := fun _ => ofBits_inf
  have hii : ∀ k : S_.Idx, constantI S_ 32 0#32 k = 0#32 := fun _ => rfl
  generalize constant (F := Ideal) S_ .f32 0x7F800000#32 = iv at hiv ⊢
  generalize constantI S_ 32 0#32 = ii at hii ⊢
  generalize hr : reducer_argmin_f32_i32 (F := Ideal) = red
  have hred : ∀ p q, (red p q = p ∧ Cert.Ops.Before p q) ∨ (red p q = q ∧ Cert.Ops.Before q p) := hr ▸ red_before
  have hy : ∀ (b : Fin 8) (r : Fin 196) (j : Fin 1568), iotaInDim S8x196x1568 32 1 (ix3 b r j) = BitVec.ofNat 32 r.val := fun _ _ _ => rfl
  generalize iotaInDim S8x196x1568 32 1 = y at hy ⊢
  generalize h_S_ = hu
  generalize reducesTo_S8x196x1568_S8x1568_d1 = hd
  exact Cert.Ops.argmin_read (A := 8) (N := 196) (M := 1568) (by norm_num) (by norm_num) red hred a58 y hy S_ iv ii hiv hii hd hu b j r0 h1 h2

/-! ### The centres' own clusters -/

theorem e66_read (n : Fin 1568) : e66 (ix1 n) = BitVec.ofNat 32 (n.val % 196) := by
  pointwise [e66]

theorem e80_batch (a14 : IVec S8x196 32) (n : Fin 1568) : e80 a14 (ix2 n 0) = BitVec.ofNat 32 (n.val / 196) := by
  pointwise [e80]
  exact wrap_small _ (by omega) _

theorem e80_token (a14 : IVec S8x196 32) (n : Fin 1568) (c : Fin 1568)
    (h : a14 (ix2 ⟨n.val / 196, by omega⟩ ⟨n.val % 196, by omega⟩) = BitVec.ofNat 32 c.val) : e80 a14 (ix2 n 1) = BitVec.ofNat 32 c.val := by
  pointwise [e80]
  rw [h]
  exact wrap_small _ (by omega) _

theorem put_lands (idx : IVec S1568x2 32) (n : Fin 1568) (b : Fin 8) (j : Fin 1568) :
    scatter_S8x1568_S1568x2_S1568_n_01_01_1.resultIdx? (ix1 n) idx = some (ix2 b j)
      ↔ (idx (ix2 n 0)).toInt = b.val ∧ (idx (ix2 n 1)).toInt = j.val := by
  have s0 : scatter_S8x1568_S1568x2_S1568_n_01_01_1.siIdx (ix1 n) ⟨0, by decide⟩ = ix2 n 0 := by
    funext a
    match a with
    | ⟨0, _⟩ => rfl
    | ⟨1, _⟩ => rfl
  have s1 : scatter_S8x1568_S1568x2_S1568_n_01_01_1.siIdx (ix1 n) ⟨1, by decide⟩ = ix2 n 1 := by
    funext a
    match a with
    | ⟨0, _⟩ => rfl
    | ⟨1, _⟩ => rfl
  have k0 : scatter_S8x1568_S1568x2_S1568_n_01_01_1.start (ix1 n) idx (0 : Fin 2) = (idx (ix2 n 0)).toInt := by
    unfold ScatterDims.start
    rw [dif_pos (by decide), ← s0]
    rfl
  have k1 : scatter_S8x1568_S1568x2_S1568_n_01_01_1.start (ix1 n) idx (1 : Fin 2) = (idx (ix2 n 1)).toInt := by
    unfold ScatterDims.start
    rw [dif_pos (by decide), ← s1]
    rfl
  have w : ∀ a : Fin 2, scatter_S8x1568_S1568x2_S1568_n_01_01_1.window (ix1 n) a = 0 := by
    intro a
    unfold ScatterDims.window
    rw [dif_neg (by revert a; decide)]
  rw [ix2_eq_valueIdx b j]
  refine (Routing.resultIdx?_ix2 (R := 8) (C := 1568) scatter_S8x1568_S1568x2_S1568_n_01_01_1 (ix1 n) idx b j).trans ?_
  have w0 : scatter_S8x1568_S1568x2_S1568_n_01_01_1.window (ix1 n) (0 : Fin 2) = 0 := w 0
  have w1 : scatter_S8x1568_S1568x2_S1568_n_01_01_1.window (ix1 n) (1 : Fin 2) = 0 := w 1
  refine Iff.trans (Eq.to_iff (congrArg₂ (fun u v : Int => u = b.val ∧ v = j.val)
    (congrArg₂ (fun (u : Int) (v : Nat) => u + (v : Int)) k0 w0) (congrArg₂ (fun (u : Int) (v : Nat) => u + (v : Int)) k1 w1))) ?_
  simp

/-- The clusters: a centre's own number, and the nearest centre's elsewhere. -/
theorem e81_read (a59 : IVec S8x1568 32) (a14 : IVec S8x196 32) (X : Fin 8 → Fin 1568 → Fin 384 → EReal) (nz : Fin 8 → Fin 1568 → EReal)
    (h14 : ∀ b r, a14 (ix2 b r) = BitVec.ofNat 32 (centre (X b) (nz b) r).val)
    (h59 : ∀ b j, a59 (ix2 b j) = BitVec.ofNat 32 (near (X b) (nz b) j).val) (b : Fin 8) (j : Fin 1568) :
    e81 a59 a14 (ix2 b j) = BitVec.ofNat 32 (clu (X b) (nz b) j).val := by
  have lands : ∀ n : Fin 1568, scatter_S8x1568_S1568x2_S1568_n_01_01_1.resultIdx? (ix1 n) (e80 a14) = some (ix2 b j)
      ↔ n.val / 196 = b.val ∧ centre (X ⟨n.val / 196, by omega⟩) (nz ⟨n.val / 196, by omega⟩) ⟨n.val % 196, by omega⟩ = j := by
    intro n
    rw [put_lands, e80_batch, e80_token a14 n _ (h14 _ _), toInt_small (n.val / 196) (by omega), toInt_token]
    constructor
    · rintro ⟨h1, h2⟩
      exact ⟨by exact_mod_cast h1, Fin.ext (by exact_mod_cast h2)⟩
    · rintro ⟨h1, h2⟩
      exact ⟨by exact_mod_cast h1, by rw [h2]⟩
  unfold e81
  by_cases hc : ∃ r, centre (X b) (nz b) r = j
  · obtain ⟨r, hr⟩ := hc
    have hcl : clu (X b) (nz b) j = r := by rw [← hr]; exact clu_centre _ _ _
    rw [hcl]
    have hn : 196 * b.val + r.val < 1568 := by omega
    refine Routing.scatter_set_hit scatter_S8x1568_S1568x2_S1568_n_01_01_1 a59 (e80 a14) e66 (ix2 b j) _ ?_ (ix1 ⟨196 * b.val + r.val, hn⟩) ?_
    · intro k hk
      obtain ⟨n, rfl⟩ : ∃ n : Fin 1568, k = ix1 n := ⟨_, eq_ix1 k⟩
      obtain ⟨h1, h2⟩ := (lands n).1 hk
      rw [e66_read]
      have hb : (⟨n.val / 196, by omega⟩ : Fin 8) = b := Fin.ext h1
      rw [hb, ← hr] at h2
      have h3 := congrArg Fin.val (centre_injective _ _ h2)
      exact congrArg (BitVec.ofNat 32) h3
    · rw [lands]
      have h1 : (196 * b.val + r.val) / 196 = b.val := by omega
      have h2 : (196 * b.val + r.val) % 196 = r.val := by omega
      refine ⟨h1, ?_⟩
      have hb : (⟨(196 * b.val + r.val) / 196, by omega⟩ : Fin 8) = b := Fin.ext h1
      have hr' : (⟨(196 * b.val + r.val) % 196, by omega⟩ : Fin 196) = r := Fin.ext h2
      show centre (X ⟨(196 * b.val + r.val) / 196, _⟩) (nz ⟨(196 * b.val + r.val) / 196, _⟩) ⟨(196 * b.val + r.val) % 196, _⟩ = j
      rw [hb, hr', hr]
  · rw [clu_other (X b) (nz b) j (fun r hr => hc ⟨r, hr⟩), ← h59]
    refine Routing.scatter_set_miss scatter_S8x1568_S1568x2_S1568_n_01_01_1 a59 (e80 a14) e66 (ix2 b j) ?_
    intro k hk
    obtain ⟨n, rfl⟩ : ∃ n : Fin 1568, k = ix1 n := ⟨_, eq_ix1 k⟩
    obtain ⟨h1, h2⟩ := (lands n).1 hk
    have hb : (⟨n.val / 196, by omega⟩ : Fin 8) = b := Fin.ext h1
    rw [hb] at h2
    exact hc ⟨_, h2⟩

end Cert.ReferenceIdeal.Val
end
-- ==== Proof.RefVal3.lean ====
/-
  The reference's last part read at an index: the weights of the clusters and the merged tokens.
-/
module

public import proofs.«01_k».proof.Proof.RefVal2

@[expose] public section

set_option maxRecDepth 16384

noncomputable section

namespace Cert.ReferenceIdeal.Val

open Cert.ReferenceIdeal Cert.ReferenceIdeal.Gen
open Idealize.ShloMosaic Idealize.ShloMosaic.TcCoe Idealize.ShloMosaic.Tactic
open Cert.Spec Cert.Order

/-! ### Sums over the flat tokens -/

theorem fl_lt {A B : Nat} (a : Fin A) (b : Fin B) : B * a.val + b.val < A * B := by
  have := a.isLt
  have := b.isLt
  calc B * a.val + b.val < B * a.val + B := by omega
    _ = (a.val + 1) * B := by ring
    _ ≤ A * B := Nat.mul_le_mul_right _ (by omega)

theorem sum_flat {A B P : Nat} (hP : P = A * B) (f : Fin P → EReal) :
    ∑ n : Fin P, f n = ∑ a : Fin A, ∑ b : Fin B, f ⟨B * a.val + b.val, hP ▸ fl_lt a b⟩ := by
  subst hP
  rw [← Fintype.sum_prod_type', ← Equiv.sum_comp finProdFinEquiv]
  refine Finset.sum_congr rfl fun p _ => congrArg f (Fin.ext ?_)
  show p.2.val + B * p.1.val = B * p.1.val + p.2.val
  omega

/-- Token `j` of batch entry `b` among all the tokens. -/
def tok (b : Fin 8) (j : Fin 1568) : Fin 12544 := ⟨1568 * b.val + j.val, by omega⟩
/-- Cluster `r` of batch entry `b` among all the clusters. -/
def row (b : Fin 8) (r : Fin 196) : Fin 1568 := ⟨196 * b.val + r.val, by omega⟩

theorem tok_surj (n : Fin 12544) : ∃ b j, tok b j = n :=
  ⟨⟨n.val / 1568, by omega⟩, ⟨n.val % 1568, by omega⟩, Fin.ext (by show 1568 * (n.val / 1568) + n.val % 1568 = n.val; omega)⟩

theorem row_inj (b b' : Fin 8) (r r' : Fin 196) : row b r = row b' r' ↔ b = b' ∧ r = r' := by
  constructor
  · intro h
    have h' : 196 * b.val + r.val = 196 * b'.val + r'.val := congrArg Fin.val h
    exact ⟨Fin.ext (by omega), Fin.ext (by omega)⟩
  · rintro ⟨rfl, rfl⟩
    rfl

/-- A sum over all tokens of what lands at a cluster is a sum over the tokens of its batch entry. -/
theorem sum_row (t : Fin 12544 → Fin 1568) (k : Fin 8 → Fin 1568 → Fin 196) (ht : ∀ b j, t (tok b j) = row b (k b j))
    (f : Fin 12544 → EReal) (b : Fin 8) (r : Fin 196) :
    (∑ n, if t n = row b r then f n else 0) = ∑ j, if k b j = r then f (tok b j) else 0 := by
  rw [sum_flat (A := 8) (B := 1568) (P := 12544) (by norm_num), Finset.sum_eq_single b]
  · refine Finset.sum_congr rfl fun j _ => ?_
    show (if t (tok b j) = row b r then f (tok b j) else 0) = _
    rw [ht]
    simp only [row_inj, true_and]
  · intro b' _ hb
    refine Finset.sum_eq_zero fun j _ => ?_
    show (if t (tok b' j) = row b r then f (tok b' j) else 0) = _
    rw [ht, if_neg]
    rw [row_inj]
    exact fun h => hb h.1
  · intro h
    exact absurd (Finset.mem_univ _) h

/-! ### The accumulating scatters and the gather of rows -/

theorem add_lands1 (idx : IVec S12544x1 32) (n : Fin 12544) (c' : Fin 1) (q : Fin 1568) (c : Fin 1) :
    scatter_S1568x1_S12544x1_S12544x1_1_0_0_1.resultIdx? (ix2 n c') idx = some (ix2 q c)
      ↔ (idx (ix2 n 0)).toInt = q.val ∧ c' = c := by
  have s0 : scatter_S1568x1_S12544x1_S12544x1_1_0_0_1.siIdx (ix2 n c') ⟨0, by decide⟩ = ix2 n 0 := by
    funext a
    match a with
    | ⟨0, _⟩ => rfl
    | ⟨1, _⟩ => rfl
  have k0 : scatter_S1568x1_S12544x1_S12544x1_1_0_0_1.start (ix2 n c') idx (0 : Fin 2) = (idx (ix2 n 0)).toInt := by
    unfold ScatterDims.start
    rw [dif_pos (by decide), ← s0]
    rfl
  have k1 : scatter_S1568x1_S12544x1_S12544x1_1_0_0_1.start (ix2 n c') idx (1 : Fin 2) = 0 := by
    unfold ScatterDims.start
    rw [dif_neg (by decide)]
  have w0 : scatter_S1568x1_S12544x1_S12544x1_1_0_0_1.window (ix2 n c') (0 : Fin 2) = 0 := by
    unfold ScatterDims.window
    rw [dif_neg (by decide)]
  have w1 : scatter_S1568x1_S12544x1_S12544x1_1_0_0_1.window (ix2 n c') (1 : Fin 2) = c'.val := by
    unfold ScatterDims.window
    rw [dif_pos (by decide)]
    rfl
  rw [ix2_eq_valueIdx q c]
  refine (Routing.resultIdx?_ix2 (R := 1568) (C := 1) scatter_S1568x1_S12544x1_S12544x1_1_0_0_1 (ix2 n c') idx q c).trans ?_
  refine Iff.trans (Eq.to_iff (congrArg₂ (fun u v : Int => u = q.val ∧ v = c.val)
    (congrArg₂ (fun (u : Int) (v : Nat) => u + (v : Int)) k0 w0) (congrArg₂ (fun (u : Int) (v : Nat) => u + (v : Int)) k1 w1))) ?_
  simp [Fin.ext_iff]

theorem add_lands384 (idx : IVec S12544x1 32) (n : Fin 12544) (c' : Fin 384) (q : Fin 1568) (c : Fin 384) :
    scatter_S1568x384_S12544x1_S12544x384_1_0_0_1.resultIdx? (ix2 n c') idx = some (ix2 q c)
      ↔ (idx (ix2 n 0)).toInt = q.val ∧ c' = c := by
  have s0 : scatter_S1568x384_S12544x1_S12544x384_1_0_0_1.siIdx (ix2 n c') ⟨0, by decide⟩ = ix2 n 0 := by
    funext a
    match a with
    | ⟨0, _⟩ => rfl
    | ⟨1, _⟩ => rfl
  have k0 : scatter_S1568x384_S12544x1_S12544x384_1_0_0_1.start (ix2 n c') idx (0 : Fin 2) = (idx (ix2 n 0)).toInt := by
    unfold ScatterDims.start
    rw [dif_pos (by decide), ← s0]
    rfl
  have k1 : scatter_S1568x384_S12544x1_S12544x384_1_0_0_1.start (ix2 n c') idx (1 : Fin 2) = 0 := by
    unfold ScatterDims.start
    rw [dif_neg (by decide)]
  have w0 : scatter_S1568x384_S12544x1_S12544x384_1_0_0_1.window (ix2 n c') (0 : Fin 2) = 0 := by
    unfold ScatterDims.window
    rw [dif_neg (by decide)]
  have w1 : scatter_S1568x384_S12544x1_S12544x384_1_0_0_1.window (ix2 n c') (1 : Fin 2) = c'.val := by
    unfold ScatterDims.window
    rw [dif_pos (by decide)]
    rfl
  rw [ix2_eq_valueIdx q c]
  refine (Routing.resultIdx?_ix2 (R := 1568) (C := 384) scatter_S1568x384_S12544x1_S12544x384_1_0_0_1 (ix2 n c') idx q c).trans ?_
  refine Iff.trans (Eq.to_iff (congrArg₂ (fun u v : Int => u = q.val ∧ v = c.val)
    (congrArg₂ (fun (u : Int) (v : Nat) => u + (v : Int)) k0 w0) (congrArg₂ (fun (u : Int) (v : Nat) => u + (v : Int)) k1 w1))) ?_
  simp [Fin.ext_iff]

/-- A scatter that adds rows, the row of every update given. -/
theorem add_rows {N R C : Nat} (d : ScatterDims ⟨2, ![R, C]⟩ ⟨2, ![N, 1]⟩ ⟨2, ![N, C]⟩) (idx : IVec ⟨2, ![N, 1]⟩ 32) (t : Fin N → Fin R)
    (hl : ∀ n c' q c, d.resultIdx? (ix2 n c') idx = some (ix2 q c) ↔ (idx (ix2 n 0)).toInt = (q.val : Int) ∧ c' = c)
    (hi : ∀ n, (idx (ix2 n 0)).toInt = ((t n).val : Int)) (x : FVec Ideal ⟨2, ![R, C]⟩ .f32) (upd : FVec Ideal ⟨2, ![N, C]⟩ .f32)
    (q : Fin R) (c : Fin C) :
    Host.scatterAdd (F := Ideal) (φ := .f32) d x idx upd (ix2 q c) = (x (ix2 q c) + ∑ n, if t n = q then upd (ix2 n c) else 0 : EReal) := by
  show Ideal.hostScatterAdd d x idx upd (ix2 q c) = _
  unfold Ideal.hostScatterAdd
  refine congrArg (fun z : EReal => x (ix2 q c) + z) ?_
  rw [Finset.sum_filter]
  refine (sum_idx2 _).trans ?_
  refine Finset.sum_congr rfl fun n _ => ?_
  have e : ∀ c', (if d.resultIdx? (ix2 n c') idx = some (ix2 q c) then upd (ix2 n c') else (0 : EReal))
      = if c' = c then (if t n = q then upd (ix2 n c) else 0) else 0 := by
    intro c'
    have h : (d.resultIdx? (ix2 n c') idx = some (ix2 q c)) ↔ (t n = q ∧ c' = c) := by
      rw [hl, hi]
      constructor
      · rintro ⟨h1, h2⟩
        exact ⟨Fin.ext (by exact_mod_cast h1), h2⟩
      · rintro ⟨h1, h2⟩
        exact ⟨by rw [h1], h2⟩
    by_cases h2 : c' = c
    · subst h2
      by_cases h1 : t n = q
      · rw [if_pos (h.2 ⟨h1, rfl⟩), if_pos rfl, if_pos h1]
      · rw [if_neg fun k => h1 (h.1 k).1, if_pos rfl, if_neg h1]
    · rw [if_neg fun k => h2 (h.1 k).2, if_neg h2]
  refine (Finset.sum_congr rfl fun c' _ => e c').trans ?_
  rw [Finset.sum_ite_eq' Finset.univ c, if_pos (Finset.mem_univ _)]

/-- The numbers of the gather that takes the weight of its cluster for every token. -/
abbrev rowDims : GatherDims S1568x1 S12544x1 S12544x1 := gather_S1568x1_S12544x1_S12544x1_1_0_n_n_0_1_11

theorem row_read (x : FVec Ideal S1568x1 .f32) (idx : IVec S12544x1 32) (n : Fin 12544) (q : Fin 1568)
    (h : idx (ix2 n 0) = BitVec.ofNat 32 q.val) : Host.gather rowDims x idx (ix2 n 0) = x (ix2 q 0) := by
  refine congrArg x ?_
  funext a
  match a with
  | ⟨0, _⟩ => exact Fin.ext (by
      show rowDims.start (ix2 n 0) idx (0 : Fin 2) + rowDims.batchCoord (ix2 n 0) (0 : Fin 2) + rowDims.offCoord (ix2 n 0) (0 : Fin 2) = q.val
      rw [GatherDims.batchCoord_eq_zero _ _ _ (by decide), GatherDims.offCoord_eq_zero _ _ _ (by decide)]
      unfold GatherDims.start
      rw [dif_pos (by decide)]
      have e : rowDims.siIdx (ix2 n 0) ⟨0, by decide⟩ = ix2 n 0 := by
        funext a
        match a with
        | ⟨0, _⟩ => rfl
        | ⟨1, _⟩ => rfl
      have e' : (idx (rowDims.siIdx (ix2 n 0) ⟨0, by decide⟩)).toInt = (q.val : Int) := by
        rw [e, h, toInt_token]
      show min (idx (rowDims.siIdx (ix2 n 0) ⟨0, by decide⟩)).toInt.toNat (1568 - 1) + 0 + 0 = q.val
      rw [e']
      omega)
  | ⟨1, _⟩ => exact Fin.ext (by
      show _ = ((0 : Fin 1) : ℕ)
      exact Nat.lt_one_iff.1 (Fin.isLt _))

/-! ### The values -/

section
variable (a88 : IVec S12544 32) (t : Fin 12544 → Fin 1568) (h88 : ∀ n, a88 (ix1 n) = BitVec.ofNat 32 (t n).val)
include h88

theorem e96_read (n : Fin 12544) : e96 a88 (ix2 n 0) = BitVec.ofNat 32 (t n).val := by
  pointwise [e96]
  rw [h88]
  exact wrap_small _ (by omega) _
theorem e105_read (n : Fin 12544) : e105 a88 (ix2 n 0) = BitVec.ofNat 32 (t n).val := e96_read a88 t h88 n
theorem e118_read (n : Fin 12544) : e118 a88 (ix2 n 0) = BitVec.ofNat 32 (t n).val := e96_read a88 t h88 n

end

theorem e88_read (a81 : IVec S8x1568 32) (k : Fin 8 → Fin 1568 → Fin 196) (h : ∀ b j, a81 (ix2 b j) = BitVec.ofNat 32 (k b j).val)
    (b : Fin 8) (j : Fin 1568) : e88 a81 (ix1 (tok b j)) = BitVec.ofNat 32 (row b (k b j)).val := by
  unfold e88
  rw [Cert.Ops.cast_read _ _ (ix1 (tok b j)) (ix2 b j) (by
    rw [Cert.Ops.val1, Cert.Ops.val2]
    show b.val * 1568 + j.val = 1568 * b.val + j.val
    omega)]
  pointwise []
  rw [h]
  apply BitVec.eq_of_toNat_eq
  have := (k b j).isLt
  simp only [IntOp.addi, IntOp.muli, BitVec.toNat_add, BitVec.toNat_mul, BitVec.toNat_ofNat, row]
  omega

theorem zero_bits : Ideal.ofBits .f32 0x00000000#32 = 0 := by simp [Ideal.ofBits, Ideal.ieee]

theorem fill1 (i : S1568x1.Idx) : broadcastInDim S1568x1 ![] bcast_S_S1568x1 (constant (F := Ideal) S_ .f32 0x00000000#32) i = (0 : EReal) :=
  zero_bits
theorem fill384 (i : S1568x384.Idx) :
    broadcastInDim S1568x384 ![] bcast_S_S1568x384 (constant (F := Ideal) S_ .f32 0x00000000#32) i = (0 : EReal) := zero_bits
theorem fillEps (i : S1568x1.Idx) : broadcastInDim S1568x1 ![] bcast_S_S1568x1 (constant (F := Ideal) S_ .f32 0x358637BD#32) i = cEps := rfl
theorem add_read (y a : FVec Ideal S1568x1 .f32) (i : S1568x1.Idx) : addf (F := Ideal) (φ := .f32) y a i = (y i + a i : EReal) := rfl

section
variable (a88 : IVec S12544 32) (k : Fin 8 → Fin 1568 → Fin 196) (h88 : ∀ b j, a88 (ix1 (tok b j)) = BitVec.ofNat 32 (row b (k b j)).val)
include h88

theorem rows_exist : ∃ t : Fin 12544 → Fin 1568, (∀ n, a88 (ix1 n) = BitVec.ofNat 32 (t n).val) ∧ ∀ b j, t (tok b j) = row b (k b j) := by
  have : ∀ n, ∃ q : Fin 1568, a88 (ix1 n) = BitVec.ofNat 32 q.val := by
    intro n
    obtain ⟨b, j, rfl⟩ := tok_surj n
    exact ⟨_, h88 b j⟩
  choose t ht using this
  refine ⟨t, ht, fun b j => Fin.ext ?_⟩
  have e := congrArg BitVec.toNat ((ht (tok b j)).symm.trans (h88 b j))
  rw [BitVec.toNat_ofNat, BitVec.toNat_ofNat, Nat.mod_eq_of_lt (by omega), Nat.mod_eq_of_lt (by omega)] at e
  exact e

theorem e99_read (a4 : Vec Ideal S8x1568x1 .f32) (b : Fin 8) (r : Fin 196) :
    e99 a4 a88 (ix2 (row b r) 0) = ((∑ j, if k b j = r then a4 (ix3 b j 0) else 0) + cEps : EReal) := by
  obtain ⟨t, h1, h2⟩ := rows_exist a88 k h88
  unfold e99
  rw [add_read, fillEps]
  refine congrArg (fun z : EReal => z + cEps) ?_
  refine (add_rows (N := 12544) (R := 1568) (C := 1) scatter_S1568x1_S12544x1_S12544x1_1_0_0_1 (e96 a88) t (add_lands1 (e96 a88))
    (fun n => by rw [e96_read a88 t h1, toInt_token]) _ _ (row b r) 0).trans ?_
  rw [fill1, zero_add]
  refine (sum_row t k h2 _ b r).trans ?_
  refine Finset.sum_congr rfl fun j _ => ?_
  rw [Cert.Ops.cast_read a4 _ (ix2 (tok b j) 0) (ix3 b j 0) (by
    rw [Cert.Ops.val2, Cert.Ops.val3]
    show b.val * (1568 * 1) + (j.val * 1 + 0) = (1568 * b.val + j.val) * 1 + 0
    omega)]

theorem e107_read (a99 : Vec Ideal S1568x1 .f32) (b : Fin 8) (j : Fin 1568) :
    e107 a99 a88 (ix3 b j 0) = a99 (ix2 (row b (k b j)) 0) := by
  obtain ⟨t, h1, h2⟩ := rows_exist a88 k h88
  unfold e107
  rw [Cert.Ops.cast_read _ _ (ix3 b j 0) (ix2 (tok b j) 0) (by
    rw [Cert.Ops.val2, Cert.Ops.val3]
    show (1568 * b.val + j.val) * 1 + 0 = b.val * (1568 * 1) + (j.val * 1 + 0)
    omega)]
  refine (row_read a99 (e105 a88) (tok b j) (t (tok b j)) (e105_read a88 t h1 _)).trans ?_
  rw [h2]

theorem e110_read (a0 : Vec Ideal S8x1568x384 .f32) (a4 a107 : Vec Ideal S8x1568x1 .f32) (b : Fin 8) (j : Fin 1568) (c : Fin 384) :
    e110 a0 a4 a107 (ix3 b j c) = (a0 (ix3 b j c) * Ideal.div (a4 (ix3 b j 0)) (a107 (ix3 b j 0)) : EReal) := by
  clear h88
  pointwise [e110]

theorem e120_read (a0 : Vec Ideal S8x1568x384 .f32) (a4 a107 : Vec Ideal S8x1568x1 .f32) (b : Fin 8) (r : Fin 196) (c : Fin 384) :
    e120 a0 a4 a107 a88 (ix3 b r c)
      = (∑ j, if k b j = r then a0 (ix3 b j c) * Ideal.div (a4 (ix3 b j 0)) (a107 (ix3 b j 0)) else 0 : EReal) := by
  obtain ⟨t, h1, h2⟩ := rows_exist a88 k h88
  unfold e120
  rw [Cert.Ops.cast_read _ _ (ix3 b r c) (ix2 (row b r) c) (by
    rw [Cert.Ops.val2, Cert.Ops.val3]
    show (196 * b.val + r.val) * 384 + c.val = b.val * (196 * 384) + (r.val * 384 + c.val)
    omega)]
  refine (add_rows (N := 12544) (R := 1568) (C := 384) scatter_S1568x384_S12544x1_S12544x384_1_0_0_1 (e118 a88) t (add_lands384 (e118 a88))
    (fun n => by rw [e118_read a88 t h1, toInt_token]) _ _ (row b r) c).trans ?_
  rw [fill384, zero_add]
  refine (sum_row t k h2 _ b r).trans ?_
  refine Finset.sum_congr rfl fun j _ => ?_
  rw [Cert.Ops.cast_read (e110 a0 a4 a107) _ (ix2 (tok b j) c) (ix3 b j c) (by
    rw [Cert.Ops.val2, Cert.Ops.val3]
    show b.val * (1568 * 384) + (j.val * 384 + c.val) = (1568 * b.val + j.val) * 384 + c.val
    omega), e110_read a88 k h88]

end

end Cert.ReferenceIdeal.Val
end
-- ==== Proof.RefOut.lean ====
/-
  The reference's result at an index: the pieces of the line put one after the other.
-/
module

public import proofs.«01_k».proof.Proof.RefVal1
public import proofs.«01_k».proof.Proof.RefVal3

@[expose] public section

set_option maxRecDepth 16384

noncomputable section

namespace Cert.ReferenceIdeal.Val

open Cert.ReferenceIdeal Cert.ReferenceIdeal.Gen Cert.ReferenceIdeal.Host
open Idealize.ShloMosaic Idealize.ShloMosaic.TcCoe Idealize.ShloMosaic.Tactic
open Cert.Spec Cert.Order

/-! ### The line as its pieces -/

section Pieces

variable {F : FTy → Type} [FloatOps F] (V : Valuation τ sig (Elt F))

def wA : Valuation τ sig (Elt F) := StableHlo.after segA V
def wU : Valuation τ sig (Elt F) := StableHlo.after segU (wA V)
def wB : Valuation τ sig (Elt F) := StableHlo.after segB (wU V)
def w1 : Valuation τ sig (Elt F) := StableHlo.after seg1 (wB V)
def w2 : Valuation τ sig (Elt F) := StableHlo.after seg2 (w1 V)
def w3 : Valuation τ sig (Elt F) := StableHlo.after seg3 (w2 V)
def w4 : Valuation τ sig (Elt F) := StableHlo.after seg4 (w3 V)
def w5 : Valuation τ sig (Elt F) := StableHlo.after seg5 (w4 V)
def w6 : Valuation τ sig (Elt F) := StableHlo.after seg6 (w5 V)
def w8 : Valuation τ sig (Elt F) := StableHlo.after seg8 (w6 V)

theorem first_eq : StableHlo.after (m0 d0).1 V = wB V := by
  rw [cut (m0 d0).1 37 V]
  exact cut restA ((restA (F := F)).length - 7) _

theorem line_eq : StableHlo.after line V = StableHlo.after seg9 (w8 V) := by
  unfold line
  rw [StableHlo.after_append, first_eq, StableHlo.after_append, cut (m1 d0).1 14 (wB V)]
  have h1 : StableHlo.after ((m1 d0).1.drop 14) (StableHlo.after ((m1 d0).1.take 14) (wB V))
      = StableHlo.after (rest4.drop 26) (w5 V) :=
    (cut rest1 3 (w1 V)).trans ((cut rest2 22 (w2 V)).trans ((cut rest3 5 (w3 V)).trans (cut rest4 26 (w4 V))))
  rw [h1, ← StableHlo.after_append]
  exact (cut rest5 23 (w5 V)).trans (cut rest6 10 (w6 V))

end Pieces

/-! ### What each piece leaves, at the exact values -/

variable (V : Valuation τ sig (Elt Ideal))

abbrev A0 : Vec Ideal S8x1568x384 .f32 := V (Proc.devRef .tc main_arg0)
abbrev A1 : Vec Ideal S1x384 .f32 := V (Proc.devRef .tc main_arg1)
abbrev A2 : Vec Ideal S1 .f32 := V (Proc.devRef .tc main_arg2)

/-- The noise the reference draws. -/
def N38 : Vec Ideal S8x1568 .f32 := StableHlo.after (m0 d0).1 V (Proc.devRef .tc main_v38)

/-- The noise of batch entry `b`. -/
abbrev NB (b : Fin 8) : Fin 1568 → EReal := fun i => N38 V (ix2 b i)

theorem U38 : wU V (Proc.devRef .tc main_v38) = N38 V := by
  unfold N38
  rw [first_eq]
  exact (ksegB_v38 (wU V)).symm

theorem U20 (b : Fin 8) (i j : Fin 1568) : (wU V (Proc.devRef .tc main_v20) : Vec Ideal S8x1568x1568 .f32) (ix3 b i j) = dist (XB (A0 V) b) i j := by
  have h : wU V (Proc.devRef .tc main_v20) = e20 (A0 V) := (ksegU_v20 (wA V)).trans (re20 V)
  rw [h]
  exact e20_read _ _ _ _

theorem A20 (b : Fin 8) (i j : Fin 1568) : (wA V (Proc.devRef .tc main_v20) : Vec Ideal S8x1568x1568 .f32) (ix3 b i j) = dist (XB (A0 V) b) i j := by
  have h : wA V (Proc.devRef .tc main_v20) = e20 (A0 V) := re20 V
  rw [h]
  exact e20_read _ _ _ _

theorem U28 (b : Fin 8) (i : Fin 1568) : (wU V (Proc.devRef .tc main_v28) : Vec Ideal S8x1568 .f32) (ix2 b i)
    = Ideal.exp (-Ideal.div (near9 (XB (A0 V) b) i) cNine) := by
  have h : wU V (Proc.devRef .tc main_v28) = e28 (wA V (Proc.devRef .tc main_v20)) := (ksegU_v28 (wA V)).trans (re28 V)
  rw [h]
  exact e28_read _ _ b (A20 V b) i

theorem B39 (b : Fin 8) (i : Fin 1568) : (wB V (Proc.devRef .tc main_v39) : Vec Ideal S8x1568 .f32) (ix2 b i)
    = dens (XB (A0 V) b) (NB V b) i := by
  have h : wB V (Proc.devRef .tc main_v39) = e39 (wU V (Proc.devRef .tc main_v28)) (N38 V) := by
    rw [← U38]
    exact re39 (wU V)
  rw [h]
  exact e39_read _ _ _ b (U28 V b) i

theorem B45 (b : Fin 8) (i j : Fin 1568) : (wB V (Proc.devRef .tc main_v45) : Vec Ideal S8x1568x1568 .f32) (ix3 b i j)
    = if dens (XB (A0 V) b) (NB V b) i < dens (XB (A0 V) b) (NB V b) j then (1 : EReal) else 0 := by
  have h : wB V (Proc.devRef .tc main_v45) = e45 (wB V (Proc.devRef .tc main_v39)) := re45 (wU V)
  rw [h, e45_read, B39, B39]

theorem B20 (b : Fin 8) (i j : Fin 1568) : (wB V (Proc.devRef .tc main_v20) : Vec Ideal S8x1568x1568 .f32) (ix3 b i j) = dist (XB (A0 V) b) i j := by
  have h : wB V (Proc.devRef .tc main_v20) = wU V (Proc.devRef .tc main_v20) := ksegB_v20 (wU V)
  rw [h]
  exact U20 V b i j

theorem R56 (b : Fin 8) (i : Fin 1568) : (w1 V (Proc.devRef .tc main_v56) : Vec Ideal S8x1568 .f32) (ix2 b i)
    = score (XB (A0 V) b) (NB V b) i := by
  have h : w1 V (Proc.devRef .tc main_v56) = e56 (wB V (Proc.devRef .tc main_v20)) (wB V (Proc.devRef .tc main_v45)) (wB V (Proc.devRef .tc main_v39)) := re56 (wB V)
  rw [h]
  exact e56_read _ _ _ _ _ b (B20 V b) (B39 V b) (B45 V b) i

theorem R14 (b : Fin 8) (r : Fin 196) : (w2 V (Proc.devRef .tc main_indices_14) : Vec Ideal S8x196 .i32) (ix2 b r)
    = BitVec.ofNat 32 (centre (XB (A0 V) b) (NB V b) r).val := by
  have h : w2 V (Proc.devRef .tc main_indices_14) = e14 (w1 V (Proc.devRef .tc main_v56)) := re14 (w1 V)
  rw [h]
  exact e14_read _ _ _ b (R56 V b) r

theorem R57 (b : Fin 8) (r : Fin 196) : (w2 V (Proc.devRef .tc main_v57) : Vec Ideal S8x196x1 .i32) (ix3 b r 0)
    = BitVec.ofNat 32 (centre (XB (A0 V) b) (NB V b) r).val := by
  have h : w2 V (Proc.devRef .tc main_v57) = e57 (w2 V (Proc.devRef .tc main_indices_14)) := re57 (w1 V)
  rw [h, e57_read, R14]

theorem R20 (b : Fin 8) (i j : Fin 1568) : (w2 V (Proc.devRef .tc main_v20) : Vec Ideal S8x1568x1568 .f32) (ix3 b i j) = dist (XB (A0 V) b) i j := by
  have h : w2 V (Proc.devRef .tc main_v20) = wB V (Proc.devRef .tc main_v20) := (kseg2_v20 (w1 V)).trans (kseg1_v20 (wB V))
  rw [h]
  exact B20 V b i j

theorem R58 (b : Fin 8) (r : Fin 196) (j : Fin 1568) : (w3 V (Proc.devRef .tc main_v58) : Vec Ideal S8x196x1568 .f32) (ix3 b r j)
    = dist (XB (A0 V) b) (centre (XB (A0 V) b) (NB V b) r) j := by
  have h : w3 V (Proc.devRef .tc main_v58) = e58 (w2 V (Proc.devRef .tc main_v20)) (w2 V (Proc.devRef .tc main_v57)) := re58 (w2 V)
  rw [h, e58_read _ _ b r j _ (R57 V b r), R20]

theorem R59 (b : Fin 8) (j : Fin 1568) : (w4 V (Proc.devRef .tc main_v59) : Vec Ideal S8x1568 .i32) (ix2 b j)
    = BitVec.ofNat 32 (near (XB (A0 V) b) (NB V b) j).val := by
  have h : w4 V (Proc.devRef .tc main_v59) = e59 (w3 V (Proc.devRef .tc main_v58)) := re59 (w3 V)
  rw [h]
  obtain ⟨h1, h2⟩ := near_spec (XB (A0 V) b) (NB V b) j
  have hi : (Finset.univ.inf (α := EReal) fun r : Fin 196 => (w3 V (Proc.devRef .tc main_v58) : Vec Ideal S8x196x1568 .f32) (ix3 b r j))
      = Finset.univ.inf fun r : Fin 196 => dist (XB (A0 V) b) (centre (XB (A0 V) b) (NB V b) r) j :=
    congrArg _ (funext fun r => R58 V b r j)
  exact e59_read _ b j _ ((R58 V b _ j).trans (h1.trans hi.symm)) fun r hr => h2 r ((R58 V b r j).symm.trans (hr.trans hi))

theorem S14 (b : Fin 8) (r : Fin 196) : (w4 V (Proc.devRef .tc main_indices_14) : Vec Ideal S8x196 .i32) (ix2 b r)
    = BitVec.ofNat 32 (centre (XB (A0 V) b) (NB V b) r).val := by
  have h : w4 V (Proc.devRef .tc main_indices_14) = w2 V (Proc.devRef .tc main_indices_14) := (kseg4_indices_14 (w3 V)).trans (kseg3_indices_14 (w2 V))
  rw [h]
  exact R14 V b r

theorem R81 (b : Fin 8) (j : Fin 1568) : (w5 V (Proc.devRef .tc main_v81) : Vec Ideal S8x1568 .i32) (ix2 b j)
    = BitVec.ofNat 32 (clu (XB (A0 V) b) (NB V b) j).val := by
  have h : w5 V (Proc.devRef .tc main_v81) = e81 (w4 V (Proc.devRef .tc main_v59)) (w4 V (Proc.devRef .tc main_indices_14)) := re81 (w4 V)
  rw [h]
  exact e81_read _ _ (fun b => XB (A0 V) b) (fun b => NB V b) (S14 V) (R59 V) b j

/-- The cluster of each token of each batch entry. -/
abbrev K (b : Fin 8) (j : Fin 1568) : Fin 196 := clu (XB (A0 V) b) (NB V b) j

theorem R88 (b : Fin 8) (j : Fin 1568) : (w6 V (Proc.devRef .tc main_v88) : Vec Ideal S12544 .i32) (ix1 (tok b j))
    = BitVec.ofNat 32 (row b (K V b j)).val := by
  have h : w6 V (Proc.devRef .tc main_v88) = e88 (w5 V (Proc.devRef .tc main_v81)) := re88 (w5 V)
  rw [h]
  exact e88_read _ (K V) (R81 V) b j

theorem R4 : w5 V (Proc.devRef .tc main_v4) = e4 (A0 V) (A1 V) (A2 V) :=
  (kseg5_v4 (w4 V)).trans <| (kseg4_v4 (w3 V)).trans <| (kseg3_v4 (w2 V)).trans <| (kseg2_v4 (w1 V)).trans <|
    (kseg1_v4 (wB V)).trans <| (ksegB_v4 (wU V)).trans <| (ksegU_v4 (wA V)).trans (re4 V)

theorem R0 : w8 V (Proc.devRef .tc main_arg0) = A0 V :=
  (kseg8_arg0 (w6 V)).trans <| (kseg6_arg0 (w5 V)).trans <| (kseg5_arg0 (w4 V)).trans <| (kseg4_arg0 (w3 V)).trans <|
    (kseg3_arg0 (w2 V)).trans <| (kseg2_arg0 (w1 V)).trans <| (kseg1_arg0 (wB V)).trans <| (ksegB_arg0 (wU V)).trans <|
    (ksegU_arg0 (wA V)).trans (ksegA_arg0 V)

theorem R99 (b : Fin 8) (r : Fin 196) : (w6 V (Proc.devRef .tc main_v99) : Vec Ideal S1568x1 .f32) (ix2 (row b r) 0)
    = aw (XB (A0 V) b) (fun c => A1 V (ix2 0 c)) (A2 V (ix1 0)) (NB V b) r := by
  have h : w6 V (Proc.devRef .tc main_v99) = e99 (w5 V (Proc.devRef .tc main_v4)) (w6 V (Proc.devRef .tc main_v88)) := re99 (w5 V)
  rw [h, R4, e99_read _ (K V) (R88 V)]
  simp only [e4_read]
  rfl

theorem R107 (b : Fin 8) (j : Fin 1568) : (w8 V (Proc.devRef .tc main_v107) : Vec Ideal S8x1568x1 .f32) (ix3 b j 0)
    = aw (XB (A0 V) b) (fun c => A1 V (ix2 0 c)) (A2 V (ix1 0)) (NB V b) (K V b j) := by
  have h : w8 V (Proc.devRef .tc main_v107) = e107 (w6 V (Proc.devRef .tc main_v99)) (w6 V (Proc.devRef .tc main_v88)) := re107 (w6 V)
  rw [h, e107_read _ (K V) (R88 V), R99]

theorem S4 : w8 V (Proc.devRef .tc main_v4) = e4 (A0 V) (A1 V) (A2 V) :=
  (kseg8_v4 (w6 V)).trans <| (kseg6_v4 (w5 V)).trans (R4 V)

theorem S88 (b : Fin 8) (j : Fin 1568) : (w8 V (Proc.devRef .tc main_v88) : Vec Ideal S12544 .i32) (ix1 (tok b j))
    = BitVec.ofNat 32 (row b (K V b j)).val := by
  have h : w8 V (Proc.devRef .tc main_v88) = w6 V (Proc.devRef .tc main_v88) := kseg8_v88 (w6 V)
  rw [h]
  exact R88 V b j

/-- The reference's result at an index. -/
theorem result_read (b : Fin 8) (r : Fin 196) (c : Fin 384) :
    (StableHlo.after line V (Proc.devRef .tc main_v120) : Vec Ideal S8x196x384 .f32) (ix3 b r c)
      = merged (XB (A0 V) b) (fun c => A1 V (ix2 0 c)) (A2 V (ix1 0)) (NB V b) r c := by
  have h : StableHlo.after line V (Proc.devRef .tc main_v120)
      = e120 (w8 V (Proc.devRef .tc main_arg0)) (w8 V (Proc.devRef .tc main_v4)) (w8 V (Proc.devRef .tc main_v107)) (w8 V (Proc.devRef .tc main_v88)) := by
    rw [line_eq]
    exact re120 (w8 V)
  rw [h, R0, S4, e120_read _ (K V) (S88 V)]
  unfold merged
  show @Eq EReal _ _
  refine Finset.sum_congr rfl fun j _ => ?_
  rw [R107, e4_read]
  rfl

end Cert.ReferenceIdeal.Val

end
-- ==== Proof.NoisePos.lean ====
/-
  The noise is not negative: its last steps are a maximum with zero and a product with a positive constant.
-/
module

public import proofs.«01_k».proof.Proof.RefOut
public import Idealize.ShloMosaic.Lib.StableHlo.RunRead

@[expose] public section

set_option maxRecDepth 16384

noncomputable section

namespace Cert.ReferenceIdeal.Val

open Cert.ReferenceIdeal Cert.ReferenceIdeal.Gen Cert.ReferenceIdeal.Host
open Idealize.ShloMosaic Idealize.ShloMosaic.TcCoe Idealize.ShloMosaic.Tactic
open Cert.Spec Cert.Order

variable (V : Valuation τ sig (Elt Ideal))

/-- The noise from the lower end of the range and the draws moved to it. -/
def eNoise (a b : Vec Ideal S8x1568 .f32) : Vec Ideal S8x1568 .f32 :=
  mulf (F := Ideal) (maximumf (F := Ideal) a b) (broadcastInDim S8x1568 ![] bcast_S_S8x1568 (constant (F := Ideal) S_ .f32 0x358637BD#32))

/-- The lower end of the range. -/
def eLow : Vec Ideal S8x1568 .f32 :=
  broadcastInDim S8x1568 ![0, 1] bcast_S1x1_S8x1568_0_1 (broadcastInDim S1x1 ![] bcast_S_S1x1 (constant (F := Ideal) S_ .f32 0x00000000#32))

theorem noise_last (W : Valuation τ sig (Elt Ideal)) :
    StableHlo.after ((segU (F := Ideal)).drop ((segU (F := Ideal)).length - 4)) W (Proc.devRef .tc main_v38)
      = eNoise (W (Proc.devRef .tc main_call0_v33)) (W (Proc.devRef .tc main_call0_v32)) := by
  after_reads_simp
  rfl

theorem low_kept (W : Valuation τ sig (Elt Ideal)) :
    StableHlo.after ((segU (F := Ideal)).take ((segU (F := Ideal)).length - 4)) W (Proc.devRef .tc main_call0_v33) = eLow := by
  after_reads_simp
  rfl

theorem eNoise_nonneg (a : Vec Ideal S8x1568 .f32) (b : Fin 8) (i : Fin 1568) : 0 ≤ eNoise eLow a (ix2 b i) := by
  have e : eNoise eLow a (ix2 b i) = max (Ideal.ofBits .f32 0x00000000#32) (a (ix2 b i)) * cEps := by
    pointwise [eNoise, eLow]
    rfl
  rw [e, zero_bits]
  exact mul_nonneg (le_max_left _ _) cEps_nonneg

/-- The noise is not negative. -/
theorem noise_nonneg (b : Fin 8) (i : Fin 1568) : 0 ≤ N38 V (ix2 b i) := by
  have h : N38 V = eNoise eLow (StableHlo.after ((segU (F := Ideal)).take ((segU (F := Ideal)).length - 4)) (wA V) (Proc.devRef .tc main_call0_v32)) := by
    rw [← U38]
    unfold wU
    rw [cut segU ((segU (F := Ideal)).length - 4) (wA V), noise_last, low_kept]
  rw [h]
  exact eNoise_nonneg _ b i

end Cert.ReferenceIdeal.Val

end
-- ==== Proof.Pays.lean ====
/-
  The idealized kernel's payloads read at an index.
-/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Cert.Spec Cert.Order

abbrev XX (x : Vec Ideal S1x1568x384 .f32) : Fin 1568 → Fin 384 → EReal := fun i c => x (ix3 0 i c)

theorem pay2_read (x : Vec Ideal S1x1568x384 .f32) (j : Fin 1568) (c : Fin 384) : k0_pay2 x (ix2 j c) = XX x j c := by
  pointwise [k0_pay2]
theorem pay4_read (x : Vec Ideal S1x1568x384 .f32) (j : Fin 1568) : k0_pay4 x (ix2 j 0) = sq (XX x) j := by
  pointwise [k0_pay4, k0_pay3, k0_pay2]
  rfl
theorem pay5_read (x : Vec Ideal S1x1568x384 .f32) (j : Fin 1568) : k0_pay5 x (ix2 0 j) = sq (XX x) j := by
  pointwise [k0_pay5, k0_pay3, k0_pay2]
  rfl
theorem pay6_read (x : Vec Ideal S1x1568x384 .f32) (i j : Fin 1568) : k0_pay6 x (ix2 i j) = dt (XX x) i j := by
  pointwise [k0_pay6, k0_pay2]
  rfl
theorem pay7_read (x : Vec Ideal S1x1568x384 .f32) (s : Vec Ideal S224x1 .f32) (d : Vec Ideal S224x1568 .f32) (i : Fin 224) (j : Fin 1568) :
    k0_pay7 x s d (ix2 i j) = max (s (ix2 i 0) + k0_pay5 x (ix2 0 j) - cTwo * d (ix2 i j)) 0 := by
  pointwise [k0_pay7]
  rfl
theorem pay8_read (x : Vec Ideal S1x1568x384 .f32) (m : Ideal .f32) (s : Vec Ideal S224x1 .f32) (d : Vec Ideal S224x1568 .f32) :
    k0_pay8 x m s d = max m (Finset.univ.sup fun p : Fin 224 × Fin 1568 => k0_pay7 x s d (ix2 p.1 p.2)) := by
  pointwise [k0_pay8]
  rw [ofBits_neg_inf]
  rfl
theorem pay9_read (i : Fin 224) : (k0_pay9 (F := Ideal)) (ix2 i 0) = 0 := by
  pointwise [k0_pay9]
theorem pay11_read (y : FVec Ideal S224x1568 .f32) (a : FVec Ideal S224x1 .f32) (i : Fin 224) :
    k0_pay11 y a (ix2 i 0) = a (ix2 i 0) + sc (Finset.univ.inf fun j => y (ix2 i j)) * sc (Finset.univ.inf fun j => y (ix2 i j)) := by
  pointwise [k0_pay11, k0_pay10]
  rw [ofBits_inf]
  rfl
theorem pay12_read (y : FVec Ideal S224x1568 .f32) (i : Fin 224) :
    ∃ j0 : Fin 1568, (∀ j, y (ix2 i j0) ≤ y (ix2 i j)) ∧ ∀ j, k0_pay12 y (ix2 i j) = if j = j0 then ⊤ else y (ix2 i j) := by
  obtain ⟨j0, h1, h2, h3⟩ := mask_first (n := 1568) (by norm_num) (by norm_num) (fun j => y (ix2 i j))
  refine ⟨j0, h2, fun j => ?_⟩
  have h : k0_pay12 y (ix2 i j) = Scalar.select (IntOp.cmpi .eq (BitVec.ofNat 32 j.val) (BitVec.ofNat 32 j0.val)) ⊤ (y (ix2 i j)) := by
    rw [← h3]
    pointwise [k0_pay12, k0_pay10]
    rw [ofBits_inf]
    rfl
  rw [h, cmpi_eq_ofNat _ _ (by omega) (by omega)]
  simp only [Fin.ext_iff]
theorem pay13_read (y : FVec Ideal S224x1 .f32) (i : Fin 224) : k0_pay13 y (ix2 i 0) = Ideal.exp (-Ideal.div (y (ix2 i 0)) cNine) := by
  pointwise [k0_pay13]
  rw [zero_sub]
  rfl
theorem pay14_read (m : Ideal .f32) : k0_pay14 m = sc m := by
  pointwise [k0_pay14]
  rfl
theorem pay15_read (v18 : Vec Ideal S1568x1 .f32) (v19 : Vec Ideal S1x1x1568 .f32) (i : Fin 1568) :
    k0_pay15 v18 v19 (ix2 i 0) = v18 (ix2 i 0) + v19 (ix3 0 0 i) := by
  pointwise [k0_pay15]
theorem pay16_read (v18 : Vec Ideal S1568x1 .f32) (i : Fin 1568) : k0_pay16 v18 (ix2 0 i) = v18 (ix2 i 0) := by
  pointwise [k0_pay16]
theorem pay17_read (v8 : FVec Ideal S1x1568 .f32) (v17 : Ideal .f32) (v27 : FVec Ideal S1x1568 .f32) (v94 : Vec Ideal S224x1 .f32)
    (v96 : Vec Ideal S224x1568 .f32) (v109 : Vec Ideal S224x1 .f32) (i : Fin 224) :
    k0_pay17 v8 v17 v27 v94 v96 v109 (ix2 0 i)
      = (Finset.univ.inf fun j => if v109 (ix2 i 0) < v27 (ix2 0 j) then sc (max (v94 (ix2 i 0) + v8 (ix2 0 j) - cTwo * v96 (ix2 i j)) 0) else v17)
        * v109 (ix2 i 0) := by
  pointwise [k0_pay17]
  rw [ofBits_inf]
  rfl

/-- The place of row `a`, column `b` in the flat list of tokens. -/
def flat (p : Fin 7 × Fin 224) : Fin 1568 := ⟨224 * p.1.val + p.2.val, by omega⟩

theorem flat_surjective (j : Fin 1568) : ∃ p, flat p = j :=
  ⟨(⟨j.val / 224, by omega⟩, ⟨j.val % 224, by omega⟩), Fin.ext (Nat.div_add_mod j.val 224)⟩

theorem flat_injective : Function.Injective flat := by
  rintro ⟨a, b⟩ ⟨a', b'⟩ h
  have := congrArg Fin.val h
  simp only [flat] at this
  ext <;> simp <;> omega

theorem pay18_read (a : Fin 7) (b : Fin 224) : k0_pay18 (ix2 a b) = BitVec.ofNat 32 (flat (a, b)).val := by
  pointwise [k0_pay18]
  apply BitVec.eq_of_toNat_eq
  simp only [IntOp.addi, IntOp.muli, BitVec.toNat_add, BitVec.toNat_mul, BitVec.toNat_ofNat, flat]
  omega

theorem pay19_read (i : Fin 1568) : k0_pay19 (ix2 0 i) = 196#32 := by
  pointwise [k0_pay19]

theorem iv_eq (k : Nat) : Scf.iv 0#32 1#32 k = BitVec.ofNat 32 k := by
  simp [Scf.iv]

/-- A round over the scores: at the first place `p0` of the greatest entry. -/
theorem pay20_read (y : Vec Ideal S7x224 .f32) (p0 : Fin 7 × Fin 224)
    (h1 : y (ix2 p0.1 p0.2) = Finset.univ.sup fun p : Fin 7 × Fin 224 => y (ix2 p.1 p.2))
    (h2 : ∀ p : Fin 7 × Fin 224, y (ix2 p.1 p.2) = (Finset.univ.sup fun p : Fin 7 × Fin 224 => y (ix2 p.1 p.2)) → (flat p0).val ≤ (flat p).val)
    (k : Fin k0_t4_loop.trips) (a : IVec S1x1568 32) :
    (∀ i, k0_pay20 k y a (ix2 0 i) = if i = flat p0 then BitVec.ofNat 32 k.val else a (ix2 0 i)) ∧
    (∀ p : Fin 7 × Fin 224, k0_pay21 y (ix2 p.1 p.2) = if flat p = flat p0 then ⊥ else y (ix2 p.1 p.2)) := by
  have h3 := fold_minsi_first (fun p : Fin 7 × Fin 224 => (flat p).val) (fun p => (flat p).isLt.trans (by norm_num)) 1568 (by norm_num)
    (fun p => (flat p).isLt) (fun p => y (ix2 p.1 p.2) = Finset.univ.sup fun p : Fin 7 × Fin 224 => y (ix2 p.1 p.2)) p0 h1 h2
  constructor
  · intro i
    have h : k0_pay20 k y a (ix2 0 i) = Scalar.select (IntOp.cmpi .eq (BitVec.ofNat 32 i.val) (BitVec.ofNat 32 (flat p0).val)) (Scf.iv 0#32 1#32 k.val) (a (ix2 0 i)) := by
      rw [← h3]
      pointwise [k0_pay20]
      rw [ofBits_neg_inf]
      simp only [pay18_read]
      rfl
    rw [h, cmpi_eq_ofNat _ _ (by omega) (by omega), iv_eq]
    simp only [Fin.ext_iff]
  · rintro ⟨i, j⟩
    have h : k0_pay21 y (ix2 i j) = Scalar.select (IntOp.cmpi .eq (BitVec.ofNat 32 (flat (i, j)).val) (BitVec.ofNat 32 (flat p0).val)) ⊥ (y (ix2 i j)) := by
      rw [← h3]
      pointwise [k0_pay21]
      rw [ofBits_neg_inf, ofBits_inf]
      simp only [pay18_read]
      have : (0 : EReal) - ⊤ = ⊥ := by rw [zero_sub]; rfl
      rw [this]
      rfl
    show k0_pay21 y (ix2 i j) = _
    rw [h, cmpi_eq_ofNat _ _ (by omega) (by omega)]
    simp only [Fin.ext_iff]

/-- A comparison of two words as a number: one or zero. -/
theorem hot (a b : Nat) (ha : a < 2 ^ 32) (hb : b < 2 ^ 32) :
    (FloatOps.sitofp .f32 (BitVec.setWidth 32 (IntOp.cmpi .eq (BitVec.ofNat 32 a) (BitVec.ofNat 32 b))) : Ideal .f32) = if a = b then (1 : EReal) else 0 := by
  have h := cmpi_eq_ofNat a b ha hb (1#32 : BitVec 32) 0#32
  have h' : BitVec.setWidth 32 (IntOp.cmpi .eq (BitVec.ofNat 32 a) (BitVec.ofNat 32 b)) = if a = b then 1#32 else 0#32 := by
    rw [← h]
    unfold Scalar.select
    generalize IntOp.cmpi .eq (BitVec.ofNat 32 a) (BitVec.ofNat 32 b) = c
    revert c; decide
  rw [h']
  split
  · show (((1#32 : BitVec 32).toInt : ℝ) : EReal) = 1
    norm_num
  · show (((0#32 : BitVec 32).toInt : ℝ) : EReal) = 0
    norm_num

end Cert.KernelIdeal.Kern
end
-- ==== Proof.Kern.lean ====
/-
  The block the idealized kernel writes at a grid point is the clustering of its batch row.
-/
module

public import proofs.«01_k».proof.Proof.Pays
public import proofs.«01_k».proof.Proof.Body

@[expose] public section

set_option maxRecDepth 16384

noncomputable section

namespace Cert.KernelIdeal.Kern

open Cert.KernelIdeal Cert.KernelIdeal.Gen
open Idealize.ShloMosaic Idealize.ShloMosaic.TcCoe Idealize.ShloMosaic.Tactic
open Cert.Spec Cert.Order

/-- Row `i` of chunk `k`. -/
def row (k : Fin 7) (i : Fin 224) : Fin 1568 := flat (k, i)

theorem rows1_apply (S : Vec Ideal S1568x1 .f32) (k : Fin k0_t1_loop.trips) (i : Fin 224) : Body.rows1 S k (ix2 i 0) = S (ix2 (row k i) 0) := by
  show S ((Rect.unit (s := S1568x1) (k0_off1 k) S224x1.size (k0_off1_inb k)).emb (ix2 i 0)) = _
  congr 1
  funext a
  apply Fin.ext
  show k0_off1 k a + 1 * ((ix2 i (0 : Fin 1) : S224x1.Idx) a).val = _
  rw [k0_off1_eq]
  fin_cases a
  · show 224 * k.val + 1 * i.val = 224 * k.val + i.val
    omega
  · rfl

theorem rows2_apply (D : Vec Ideal S1568x1568 .f32) (k : Fin k0_t1_loop.trips) (i : Fin 224) (j : Fin 1568) : Body.rows2 D k (ix2 i j) = D (ix2 (row k i) j) := by
  show D ((Rect.unit (s := S1568x1568) (k0_off2 k) S224x1568.size (k0_off2_inb k)).emb (ix2 i j)) = _
  congr 1
  funext a
  apply Fin.ext
  show k0_off2 k a + 1 * ((ix2 i j : S224x1568.Idx) a).val = _
  rw [k0_off2_eq]
  fin_cases a
  · show 224 * k.val + 1 * i.val = 224 * k.val + i.val
    omega
  · show 0 + 1 * j.val = j.val
    omega

theorem rows3_apply (S : Vec Ideal S1568x1 .f32) (k : Fin k0_t3_loop.trips) (i : Fin 224) : Body.rows3 S k (ix2 i 0) = S (ix2 (row k i) 0) := by
  show S ((Rect.unit (s := S1568x1) (k0_off3 k) S224x1.size (k0_off3_inb k)).emb (ix2 i 0)) = _
  congr 1
  funext a
  apply Fin.ext
  show k0_off3 k a + 1 * ((ix2 i (0 : Fin 1) : S224x1.Idx) a).val = _
  rw [k0_off3_eq]
  fin_cases a
  · show 224 * k.val + 1 * i.val = 224 * k.val + i.val
    omega
  · rfl

theorem rows4_apply (D : Vec Ideal S1568x1568 .f32) (k : Fin k0_t3_loop.trips) (i : Fin 224) (j : Fin 1568) : Body.rows4 D k (ix2 i j) = D (ix2 (row k i) j) := by
  show D ((Rect.unit (s := S1568x1568) (k0_off4 k) S224x1568.size (k0_off4_inb k)).emb (ix2 i j)) = _
  congr 1
  funext a
  apply Fin.ext
  show k0_off4 k a + 1 * ((ix2 i j : S224x1568.Idx) a).val = _
  rw [k0_off4_eq]
  fin_cases a
  · show 224 * k.val + 1 * i.val = 224 * k.val + i.val
    omega
  · show 0 + 1 * j.val = j.val
    omega

variable (x : Vec Ideal S1x1568x384 .f32)

theorem chunk_read (k : Fin k0_t1_loop.trips) (i : Fin 224) (j : Fin 1568) :
    k0_pay7 x (Body.rows1 (k0_pay4 x) k) (Body.rows2 (k0_pay6 x) k) (ix2 i j) = d2 (XX x) (row k i) j := by
  rw [pay7_read, rows1_apply, rows2_apply, pay4_read, pay5_read, pay6_read]
  rfl

/-- The nine rounds over a chunk add the nine least entries, each as a squared distance. -/
theorem rounds_read (s : Vec Ideal S224x1 .f32) (d : Vec Ideal S224x1568 .f32) (π : Fin 224 → Fin 1568 → Fin 1568)
    (hπ : ∀ i, Function.Bijective (π i)) (hm : ∀ i, Monotone ((fun j => k0_pay7 x s d (ix2 i j)) ∘ π i)) (i : Fin 224) :
    (Body.rounds x s d).2 (ix2 i 0)
      = ∑ r : Fin 9, sc (k0_pay7 x s d (ix2 i (π i (r.castLE (by norm_num))))) * sc (k0_pay7 x s d (ix2 i (π i (r.castLE (by norm_num))))) := by
  have hk := foldl_keeps (n := k0_t2_loop.trips)
    (fun r (a : FVec Ideal S224x1568 .f32 × FVec Ideal S224x1 .f32) => ∀ i : Fin 224,
      (∀ t, t < ⊤ → below (fun j => a.1 (ix2 i j)) t = below (fun j => k0_pay7 x s d (ix2 i j)) t - r) ∧
      a.2 (ix2 i 0) = ∑ q ∈ Finset.range r, if h : q < 1568 then sc (k0_pay7 x s d (ix2 i (π i ⟨q, h⟩))) * sc (k0_pay7 x s d (ix2 i (π i ⟨q, h⟩))) else 0)
    (fun (_ : Fin k0_t2_loop.trips) a => (k0_pay12 a.1, k0_pay11 a.1 a.2)) (k0_pay7 x s d, k0_pay9)
    (fun i => ⟨fun t _ => by rw [Nat.sub_zero], (pay9_read i).trans (by simp)⟩)
    (fun r a h i => by
      have hr : r.val < 9 := r.isLt
      have hlt : r.val < 1568 := by omega
      have hinf := inf_eq_sorted (fun j => k0_pay7 x s d (ix2 i j)) (fun j => a.1 (ix2 i j)) (π i) (hπ i) (hm i) ⟨r.val, hlt⟩ (h i).1
      obtain ⟨j0, h1, h2⟩ := pay12_read a.1 i
      constructor
      · intro t ht
        have := below_update (fun j => a.1 (ix2 i j)) j0 t ht h1
        simp only [h2]
        rw [this, (h i).1 t ht]
        omega
      · show k0_pay11 a.1 a.2 (ix2 i 0) = _
        rw [pay11_read, Finset.sum_range_succ, ← (h i).2, dif_pos hlt, hinf])
  have h9 := (hk i).2
  unfold Body.rounds
  rw [Scf.fold_eq]
  refine h9.trans ?_
  show (∑ q ∈ Finset.range 9, _) = _
  rw [Finset.sum_range]
  refine Finset.sum_congr rfl fun r _ => ?_
  rw [dif_pos (by omega)]
  rfl

theorem piece1_read (k : Fin k0_t1_loop.trips) (i : Fin 224) :
    k0_pay13 (Body.rounds x (Body.rows1 (k0_pay4 x) k) (Body.rows2 (k0_pay6 x) k)).2 (ix2 i 0)
      = Ideal.exp (-Ideal.div (near9 (XX x) (row k i)) cNine) := by
  have hs : ∀ i : Fin 224, ∃ π : Fin 1568 → Fin 1568, Function.Bijective π ∧ Monotone (d2 (XX x) (row k i) ∘ π) := fun i => exists_sorted _
  choose π hπ hm using hs
  have hrow : ∀ i : Fin 224, (fun j => k0_pay7 x (Body.rows1 (k0_pay4 x) k) (Body.rows2 (k0_pay6 x) k) (ix2 i j)) = d2 (XX x) (row k i) :=
    fun i => funext fun j => chunk_read x k i j
  rw [pay13_read, rounds_read x _ _ π hπ (fun i => by rw [hrow]; exact hm i) i, near9_eq (XX x) (row k i) (π i) (hπ i) (hm i)]
  simp only [chunk_read]

theorem mem_pb1 (S : Vec Ideal S1568x1 .f32) (D : Vec Ideal S1568x1568 .f32) (k : ℕ) :
    ∀ p ∈ Body.pb1 x S D k, ∃ k', p = Body.piece1 x S D k' := by
  induction k with
  | zero => intro p hp; simp [Body.pb1] at hp
  | succ k ih =>
    intro p hp
    rw [Body.pb1.eq_2, List.mem_append] at hp
    rcases hp with hp | hp
    · split at hp
      · next h => exact ⟨⟨k, h⟩, by simpa using hp⟩
      · simp at hp
    · exact ih p hp

theorem dens0_read (i : Fin 1568) : Body.dens0 x (ix2 i 0) = Ideal.exp (-Ideal.div (near9 (XX x) i) cNine) := by
  refine View.canon_apply_of_pieces (Val := Elt Ideal) (S := S1568x1) (e := .f32)
    (fun y => Ideal.exp (-Ideal.div (near9 (XX x) (y 0)) cNine)) _ (fun p hp y => ?_) (ix2 i 0) (Body.cover1 x _ _ _)
  obtain ⟨k, rfl⟩ := mem_pb1 x _ _ _ p hp
  have hy : y = (ix2 (y 0) 0 : S224x1.Idx) := by rw [eq_ix2 (n0 := 224) (n1 := 1) y]; congr 1; exact Subsingleton.elim _ _
  show k0_pay13 (F := Ideal) _ y = Ideal.exp (-Ideal.div (near9 (XX x) ((Rect.unit (s := S1568x1) (k0_off1 k) S224x1.size (k0_off1_inb k)).emb y 0)) cNine)
  have he : (Rect.unit (s := S1568x1) (k0_off1 k) S224x1.size (k0_off1_inb k)).emb y 0 = row k (y 0) := by
    apply Fin.ext
    show k0_off1 k 0 + 1 * (y 0).val = _
    rw [k0_off1_eq]
    show 224 * k.val + 1 * (y 0).val = 224 * k.val + (y 0).val
    omega
  rw [he, hy]
  exact piece1_read x k (y 0)

theorem dmax2_read : Body.dmax2 x = Finset.univ.sup fun p : Fin 1568 × Fin 1568 => d2 (XX x) p.1 p.2 := by
  have h : ∀ k : ℕ, k ≤ 7 → ∀ t, Body.st1 x (k0_pay4 x) (k0_pay6 x) (Scalar.ofBits .f32 0xFF800000#32) k ≤ t ↔
      ∀ k' : Fin 7, k'.val < k → ∀ i j, d2 (XX x) (row k' i) j ≤ t := by
    intro k
    induction k with
    | zero =>
      intro _ t
      show Ideal.ofBits .f32 0xFF800000#32 ≤ t ↔ _
      rw [ofBits_neg_inf]
      simp
    | succ k ih =>
      intro hk t
      have hk' : k < k0_t1_loop.trips := by show k < 7; omega
      have := Body.st1_succ x (k0_pay4 x) (k0_pay6 x) (Scalar.ofBits .f32 0xFF800000#32) ⟨k, hk'⟩
      rw [this, pay8_read, max_le_iff, ih (by omega), Finset.sup_le_iff]
      simp only [chunk_read]
      constructor
      · rintro ⟨h1, h2⟩ k' hlt i j
        rcases Nat.lt_or_ge k'.val k with h | h
        · exact h1 k' h i j
        · have : k' = ⟨k, hk'⟩ := Fin.ext (by show k'.val = k; omega)
          rw [this]
          exact h2 (i, j) (Finset.mem_univ _)
      · intro h
        exact ⟨fun k' hlt => h k' (by omega), fun p _ => h ⟨k, hk'⟩ (by show k < k + 1; omega) p.1 p.2⟩
  apply eq_of_forall_ge_iff
  intro t
  rw [Finset.sup_le_iff]
  refine (h 7 le_rfl t).trans ⟨fun h p _ => ?_, fun h k' _ i j => h (row k' i, j) (Finset.mem_univ _)⟩
  obtain ⟨⟨a, b⟩, hab⟩ := flat_surjective p.1
  rw [← hab]
  exact h a a.isLt b p.2

variable (nzv : Vec Ideal S1x1x1568 .f32)

abbrev NZ (nzv : Vec Ideal S1x1x1568 .f32) : Fin 1568 → EReal := fun i => nzv (ix3 0 0 i)

theorem dens_read (i : Fin 1568) : Body.dens x nzv (ix2 i 0) = dens (XX x) (NZ nzv) i := by
  unfold Body.dens
  rw [pay15_read, dens0_read]
  rfl

theorem piece3_read (k : Fin k0_t3_loop.trips) (i : Fin 224) :
    k0_pay17 (k0_pay5 x) (k0_pay14 (Body.dmax2 x)) (k0_pay16 (Body.dens x nzv)) (Body.rows3 (k0_pay4 x) k) (Body.rows4 (k0_pay6 x) k)
      (Body.rows3 (Body.dens x nzv) k) (ix2 0 i) = score (XX x) (NZ nzv) (row k i) := by
  rw [pay17_read]
  have hd : Body.rows3 (Body.dens x nzv) k (ix2 i 0) = dens (XX x) (NZ nzv) (row k i) := by rw [rows3_apply, dens_read]
  have hg : k0_pay14 (Body.dmax2 x) = dmax (XX x) := by rw [pay14_read, dmax2_read, dmax_eq]
  rw [hd, hg]
  refine congrArg (fun z => z * dens (XX x) (NZ nzv) (row k i)) (Finset.inf_congr rfl fun j _ => ?_)
  rw [pay16_read, dens_read, rows3_apply, rows4_apply, pay4_read, pay5_read, pay6_read]
  rfl

theorem mem_pb3 (v8 : FVec Ideal S1x1568 .f32) (v17 : Ideal .f32) (v27 : FVec Ideal S1x1568 .f32) (S : Vec Ideal S1568x1 .f32) (D : Vec Ideal S1568x1568 .f32)
    (R : Vec Ideal S1568x1 .f32) (k : ℕ) : ∀ p ∈ Body.pb3 v8 v17 v27 S D R k, ∃ k', p = Body.piece3 v8 v17 v27 S D R k' := by
  induction k with
  | zero => intro p hp; simp [Body.pb3] at hp
  | succ k ih =>
    intro p hp
    rw [Body.pb3.eq_2, List.mem_append] at hp
    rcases hp with hp | hp
    · split at hp
      · next h => exact ⟨⟨k, h⟩, by simpa using hp⟩
      · simp at hp
    · exact ih p hp

theorem score_read (p : Fin 7 × Fin 224) : Body.score x nzv (ix2 p.1 p.2) = score (XX x) (NZ nzv) (flat p) := by
  refine View.canon_apply_of_pieces (Val := Elt Ideal) (S := S7x224) (e := .f32)
    (fun y => score (XX x) (NZ nzv) (flat (y 0, y 1))) _ (fun p hp y => ?_) (ix2 p.1 p.2) (Body.cover3 _ _ _ _ _ _ _)
  obtain ⟨k, rfl⟩ := mem_pb3 _ _ _ _ _ _ _ p hp
  have hy : y = (ix2 0 (y 1) : S1x224.Idx) := by rw [eq_ix2 (n0 := 1) (n1 := 224) y]; congr 1; exact Subsingleton.elim _ _
  show k0_pay17 (F := Ideal) _ _ _ _ _ _ y = score (XX x) (NZ nzv) (flat ((Rect.unit (s := S7x224) (k0_off5 k) S1x224.size (k0_off5_inb k)).emb y 0,
    (Rect.unit (s := S7x224) (k0_off5 k) S1x224.size (k0_off5_inb k)).emb y 1))
  have he0 : (Rect.unit (s := S7x224) (k0_off5 k) S1x224.size (k0_off5_inb k)).emb y 0 = (k : Fin 7) := by
    apply Fin.ext
    show k0_off5 k 0 + 1 * (y 0).val = k.val
    rw [k0_off5_eq]
    have : (y 0).val < 1 := (y 0).isLt
    show k.val + 1 * (y 0).val = k.val
    omega
  have he1 : (Rect.unit (s := S7x224) (k0_off5 k) S1x224.size (k0_off5_inb k)).emb y 1 = (y 1 : Fin 224) := by
    apply Fin.ext
    show k0_off5 k 1 + 1 * (y 1).val = (y 1).val
    rw [k0_off5_eq]
    show 0 + 1 * (y 1).val = (y 1).val
    omega
  rw [he0, he1, hy]
  exact piece3_read x nzv k (y 1)

set_option maxHeartbeats 4000000 in
/-- The rounds of choosing: the rank of a centre is its number, of any other token 196. -/
theorem ranks_read (hnz : ∀ i, 0 ≤ NZ nzv i) :
    (∀ r : Fin 196, Body.ranks x nzv (ix2 0 (centre (XX x) (NZ nzv) r)) = BitVec.ofNat 32 r.val) ∧
    (∀ i, (∀ r, centre (XX x) (NZ nzv) r ≠ i) → Body.ranks x nzv (ix2 0 i) = 196#32) := by
  obtain ⟨u, hu⟩ : ∃ u, u = score (XX x) (NZ nzv) := ⟨_, rfl⟩
  have hk := foldl_keeps (n := k0_t4_loop.trips)
    (fun r (a : Vec Ideal S7x224 .f32 × IVec S1x1568 32) =>
      (∀ (p : Fin 7 × Fin 224) (s : Fin 1568), place u s = flat p → s.val < r → a.1 (ix2 p.1 p.2) = ⊥) ∧
      (∀ (p : Fin 7 × Fin 224) (s : Fin 1568), place u s = flat p → r ≤ s.val → a.1 (ix2 p.1 p.2) = u (flat p)) ∧
      (∀ s : Fin 1568, s.val < r → a.2 (ix2 0 (place u s)) = BitVec.ofNat 32 s.val) ∧
      (∀ s : Fin 1568, r ≤ s.val → a.2 (ix2 0 (place u s)) = 196#32))
    (fun (k : Fin k0_t4_loop.trips) a => (k0_pay21 a.1, k0_pay20 k a.1 a.2)) (Body.score x nzv, k0_pay19)
    ⟨fun p s _ h => by omega, fun p s _ _ => by rw [hu]; exact score_read x nzv p, fun s h => by omega, fun s _ => pay19_read (place u s)⟩
    (fun r a h => by
      obtain ⟨hy1, hy2, h2, h3⟩ := h
      have hr : r.val < 196 := r.isLt
      obtain ⟨r', hr'⟩ : ∃ r' : Fin 1568, r'.val = r.val := ⟨⟨r.val, by omega⟩, rfl⟩
      obtain ⟨p0, hp0⟩ := flat_surjective (place u r')
      obtain ⟨Y, hY⟩ : ∃ Y : Fin 1568 → EReal, ∀ p : Fin 7 × Fin 224, Y (flat p) = a.1 (ix2 p.1 p.2) := by
        choose g hg using flat_surjective
        refine ⟨fun j => a.1 (ix2 (g j).1 (g j).2), fun p => ?_⟩
        have : g (flat p) = p := flat_injective (hg _)
        show a.1 (ix2 (g (flat p)).1 (g (flat p)).2) = _
        rw [this]
      obtain ⟨g1, g2, g3⟩ := left_sup u (fun i => by rw [hu]; exact score_gt (XX x) (NZ nzv) hnz i) r' Y
        (fun s hs => by
          obtain ⟨p, hp⟩ := flat_surjective (place u s)
          rw [← hp, hY]
          exact hy1 p s hp.symm (by have := Fin.lt_def.1 hs; omega))
        (fun s hs => by
          obtain ⟨p, hp⟩ := flat_surjective (place u s)
          rw [← hp, hY]
          exact hy2 p s hp.symm (by have := Fin.le_def.1 hs; omega))
      have hsup : (Finset.univ.sup fun p : Fin 7 × Fin 224 => a.1 (ix2 p.1 p.2)) = Finset.univ.sup Y := by
        apply eq_of_forall_ge_iff
        intro t
        rw [Finset.sup_le_iff, Finset.sup_le_iff]
        constructor
        · intro h j _
          obtain ⟨p, rfl⟩ := flat_surjective j
          rw [hY]; exact h p (Finset.mem_univ _)
        · intro h p _
          rw [← hY]; exact h _ (Finset.mem_univ _)
      obtain ⟨q1, q2⟩ := pay20_read a.1 p0 (by rw [hsup, g1, ← hY, hp0, g2])
        (fun p hp => by rw [hsup, g1, ← hY] at hp; rw [hp0]; exact g3 _ hp) r a.2
      have hne : ∀ s : Fin 1568, s.val ≠ r.val → place u s ≠ place u r' := fun s hs h' => by
        have := (place_bijective u).1 h'
        rw [this, hr'] at hs
        exact hs rfl
      have heq : ∀ s : Fin 1568, s.val = r.val → s = r' := fun s hs => Fin.ext (hs.trans hr'.symm)
      refine ⟨fun p s hp hs => ?_, fun p s hp hs => ?_, fun s hs => ?_, fun s hs => ?_⟩
      · show k0_pay21 a.1 (ix2 p.1 p.2) = _
        rw [q2, hp0, ← hp]
        by_cases h : s.val = r.val
        · rw [if_pos (by rw [heq s h])]
        · rw [if_neg (hne s h), hy1 p s hp (by omega)]
      · show k0_pay21 a.1 (ix2 p.1 p.2) = _
        rw [q2, hp0, ← hp, if_neg (hne s (by omega)), hy2 p s hp (by omega), hp]
      · show k0_pay20 r a.1 a.2 (ix2 0 (place u s)) = _
        rw [q1, hp0]
        by_cases h : s.val = r.val
        · rw [if_pos (by rw [heq s h]), h]
        · rw [if_neg (hne s h), h2 s (by omega)]
      · show k0_pay20 r a.1 a.2 (ix2 0 (place u s)) = _
        rw [q1, hp0, if_neg (hne s (by omega)), h3 s (by omega)])
  obtain ⟨_, _, h2, h3⟩ := hk
  unfold Body.ranks
  rw [Scf.fold_eq]
  constructor
  · intro r
    unfold centre
    rw [← hu]
    exact h2 (r.castLE (by norm_num)) r.isLt
  · intro i hi
    obtain ⟨s, rfl⟩ := (place_bijective u).2 i
    refine h3 s ?_
    by_contra hc
    have hs : s.val < 196 := not_le.1 hc
    refine hi ⟨s.val, hs⟩ ?_
    unfold centre
    rw [← hu]
    rfl

theorem pay22_read (v8 : FVec Ideal S1x1568 .f32) (rk : IVec S1x1568 32) (d : Vec Ideal S1568x1568 .f32) (s : Vec Ideal S1568x1 .f32) (j : Fin 1568)
    (Dd : Fin 196 → EReal) (r0 : Fin 196) (h1 : Dd r0 = Finset.univ.inf Dd) (h2 : ∀ r, Dd r = Finset.univ.inf Dd → r0 ≤ r)
    (hD : ∀ r : Fin 196, Dd r = sc (max ((∑ i, (FloatOps.sitofp .f32 (BitVec.setWidth 32 (IntOp.cmpi .eq (BitVec.ofNat 32 r.val) (rk (ix2 0 i)))) : Ideal .f32) * s (ix2 i 0))
      + v8 (ix2 0 j) - cTwo * ∑ i, (FloatOps.sitofp .f32 (BitVec.setWidth 32 (IntOp.cmpi .eq (BitVec.ofNat 32 r.val) (rk (ix2 0 i)))) : Ideal .f32) * d (ix2 i j)) 0)) :
    k0_pay22 v8 rk d s (ix2 0 j) = BitVec.ofNat 32 r0.val := by
  have h3 := fold_minsi_first (fun r : Fin 196 => r.val) (fun r => r.isLt.trans (by norm_num)) 196 (by norm_num) (fun r => r.isLt)
    (fun r => Dd r = Finset.univ.inf Dd) r0 h1 h2
  rw [← h3]
  have hD' : Dd = fun r : Fin 196 => sc _ := funext hD
  rw [hD']
  pointwise [k0_pay22]
  rw [ofBits_inf]
  rfl

theorem pay1_read (v1 : FVec Ideal S1568x384 .f32) (rk : IVec S1x1568 32) (cl : IVec S1x1568 32) (w : Vec Ideal S1x384 .f32) (b : Vec Ideal S1x1 .f32)
    (R : Fin 1568 → Fin 196) (hR : ∀ j, Scalar.select (IntOp.cmpi .slt (rk (ix2 0 j)) 196#32) (rk (ix2 0 j)) (cl (ix2 0 j)) = BitVec.ofNat 32 (R j).val)
    (r : Fin 196) (c : Fin 384) :
    k0_pay1 v1 rk (iota .tc S196x1568 32 [0] iota_S196x1568_d0_w32) cl w b (ix3 0 r c)
      = ∑ j, (if r.val = (R j).val then (1 : EReal) else 0) * Ideal.div (Ideal.exp (∑ c, w (ix2 0 c) * v1 (ix2 j c) + b (ix2 0 0)))
          (∑ r' : Fin 196, ((∑ j, Ideal.exp (∑ c, w (ix2 0 c) * v1 (ix2 j c) + b (ix2 0 0)) * (if r'.val = (R j).val then (1 : EReal) else 0)) + cEps)
            * (if r'.val = (R j).val then (1 : EReal) else 0)) * v1 (ix2 j c) := by
  have hh : ∀ (r : Fin 196) (j : Fin 1568), (FloatOps.sitofp .f32 (BitVec.setWidth 32 (IntOp.cmpi .eq (BitVec.ofNat 32 r.val) (BitVec.ofNat 32 (R j).val))) : Ideal .f32)
      = if r.val = (R j).val then (1 : EReal) else 0 := fun r j => hot _ _ (by omega) (by omega)
  pointwise [k0_pay1]
  simp only [hR, hh]
  rfl

theorem sum_hot {ι : Type} [Fintype ι] [DecidableEq ι] (j0 : ι) (f : ι → EReal) (p : ι → Prop) [DecidablePred p] (hp : ∀ i, p i ↔ i = j0) :
    (∑ i, (if p i then (1 : EReal) else 0) * f i) = f j0 := by
  rw [Finset.sum_eq_single j0]
  · rw [if_pos ((hp j0).2 rfl), one_mul]
  · intro i _ h
    rw [if_neg (fun h' => h ((hp i).1 h')), zero_mul]
  · intro h; exact absurd (Finset.mem_univ _) h

theorem clus_read (hnz : ∀ i, 0 ≤ NZ nzv i) (j : Fin 1568) : Body.clus x nzv (ix2 0 j) = BitVec.ofNat 32 (near (XX x) (NZ nzv) j).val := by
  obtain ⟨h1, h2⟩ := ranks_read x nzv hnz
  have hh : ∀ (r : Fin 196) (i : Fin 1568), (FloatOps.sitofp .f32 (BitVec.setWidth 32 (IntOp.cmpi .eq (BitVec.ofNat 32 r.val) (Body.ranks x nzv (ix2 0 i)))) : Ideal .f32)
      = if i = centre (XX x) (NZ nzv) r then (1 : EReal) else 0 := by
    intro r i
    by_cases hi : ∃ r', centre (XX x) (NZ nzv) r' = i
    · obtain ⟨r', rfl⟩ := hi
      rw [h1, hot _ _ (by omega) (by omega)]
      by_cases h : r = r'
      · rw [if_pos (by rw [h]), if_pos (by rw [h])]
      · rw [if_neg (fun e => h (Fin.ext e)), if_neg (fun e => h (centre_injective _ _ e).symm)]
    · rw [h2 i (fun r' h => hi ⟨r', h⟩), hot _ _ (by omega) (by omega), if_neg (by omega), if_neg (fun h => hi ⟨r, h.symm⟩)]
  refine pay22_read _ _ _ _ j (fun r => dist (XX x) (centre (XX x) (NZ nzv) r) j) (near (XX x) (NZ nzv) j) (near_spec _ _ j).1 (near_spec _ _ j).2 ?_
  intro r
  simp only [hh]
  rw [sum_hot (centre (XX x) (NZ nzv) r) _ _ (fun i => Iff.rfl), sum_hot (centre (XX x) (NZ nzv) r) _ _ (fun i => Iff.rfl), pay4_read, pay5_read, pay6_read]
  rfl

/-- The block written is the clustering of the row. -/
theorem out_read (w : Vec Ideal S1x384 .f32) (b : Vec Ideal S1x1 .f32) (hnz : ∀ i, 0 ≤ NZ nzv i) (r : Fin 196) (c : Fin 384) :
    Body.out x w b nzv (ix3 0 r c) = merged (XX x) (fun c => w (ix2 0 c)) (b (ix2 0 0)) (NZ nzv) r c := by
  obtain ⟨h1, h2⟩ := ranks_read x nzv hnz
  have hslt : ∀ r : Fin 196, IntOp.cmpi .slt (BitVec.ofNat 32 r.val) 196#32 = 1#1 := by decide
  have hR : ∀ j, Scalar.select (IntOp.cmpi .slt (Body.ranks x nzv (ix2 0 j)) 196#32) (Body.ranks x nzv (ix2 0 j)) (Body.clus x nzv (ix2 0 j))
      = BitVec.ofNat 32 (clu (XX x) (NZ nzv) j).val := by
    intro j
    by_cases hj : ∃ r', centre (XX x) (NZ nzv) r' = j
    · obtain ⟨r', rfl⟩ := hj
      rw [h1, hslt, clu_centre]
      rfl
    · have hj' : ∀ r', centre (XX x) (NZ nzv) r' ≠ j := fun r' h => hj ⟨r', h⟩
      rw [h2 j hj', clu_other _ _ _ hj', clus_read x nzv hnz]
      rfl
  unfold Body.out
  rw [pay1_read _ _ _ _ _ _ hR]
  simp only [pay2_read]
  have hw : ∀ j, Ideal.exp (∑ c, w (ix2 0 c) * XX x j c + b (ix2 0 0)) = wt (XX x) (fun c => w (ix2 0 c)) (b (ix2 0 0)) j := by
    intro j
    unfold wt
    simp only [mul_comm]
  simp only [hw]
  unfold merged
  refine Finset.sum_congr rfl fun j _ => ?_
  by_cases h : clu (XX x) (NZ nzv) j = r
  · rw [if_pos h, if_pos (by rw [h]), one_mul, mul_comm]
    unfold Spec.norm
    refine congrArg (fun z => XX x j c * Ideal.div (wt (XX x) (fun c => w (ix2 0 c)) (b (ix2 0 0)) j) z) ?_
    rw [← sum_hot (clu (XX x) (NZ nzv) j) (fun r' => aw (XX x) (fun c => w (ix2 0 c)) (b (ix2 0 0)) (NZ nzv) r')
      (fun r' => r'.val = (clu (XX x) (NZ nzv) j).val) (fun i => ⟨fun h => Fin.ext h, fun h => by rw [h]⟩)]
    refine Finset.sum_congr rfl fun r' _ => ?_
    rw [mul_comm]
    refine congrArg (fun z => (if r'.val = (clu (XX x) (NZ nzv) j).val then (1 : EReal) else 0) * z) ?_
    unfold aw
    refine congrArg (fun z => z + cEps) ?_
    refine Finset.sum_congr rfl fun j' _ => ?_
    by_cases h' : clu (XX x) (NZ nzv) j' = r'
    · rw [if_pos h', if_pos (by rw [h']), mul_one]
    · rw [if_neg h', if_neg (fun e => h' (Fin.ext e.symm)), mul_zero]
  · rw [if_neg h, if_neg (fun e => h (Fin.ext e.symm)), zero_mul, zero_mul]

end Cert.KernelIdeal.Kern
end
-- ==== Proof.Result.lean ====
/-
  The array the idealized kernel's launch leaves: every batch entry's clustering, of the arguments and the noise.
-/
module

public import proofs.«01_k».proof.Proof.Kern
public import proofs.«01_k».proof.Proof.Launched
public import proofs.«01_k».proof.Proof.RefOps
public import Idealize.ShloMosaic.Lib.Pipeline.ValueKit
public import Idealize.ShloMosaic.Lib.StableHlo.RunRead

@[expose] public section

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL.Sem
open Cert.Spec Cert.Order

variable (m : (ℓ : Loc nD τ sig) → Buf (Elt Ideal) ℓ) (ρ : Dev nD → PrngReg)

/-! ### What the launch finds -/

/-- The noise before its reshape. -/
def N9 (c : Dev nD) : Vec Ideal S8x1568 .f32 := V m c main_v9

def pre2 (c : Dev nD) : Valuation τ sig (Elt Ideal) := StableHlo.after (List.flatten [hostOps0, hostOps0_1]) (fun b => m (c, b))

theorem V_eq (c : Dev nD) : StableHlo.after (List.flatten [hostOps0, hostOps0_1, hostOps0_2]) (fun b => m (c, b)) = StableHlo.after hostOps0_2 (pre2 m c) := by
  unfold pre2
  rw [← StableHlo.after_append]
  simp only [List.flatten_cons, List.flatten_nil, List.append_nil, List.append_assoc]

theorem last11 (W : Valuation τ sig (Elt Ideal)) : StableHlo.after hostOps0_2 W (Proc.devRef .tc main_v11)
    = shapeCast S8x1x1568 (StableHlo.after hostOps0_2 W (Proc.devRef .tc main_v9) : Vec Ideal S8x1568 .f32) shapeCasts_S8x1568_S8x1x1568 := by
  after_reads_simp
  rfl

theorem last10 (W : Valuation τ sig (Elt Ideal)) : StableHlo.after hostOps0_2 W (Proc.devRef .tc main_v10)
    = shapeCast S1x1 (StableHlo.after hostOps0_2 W (Proc.devRef .tc main_arg2) : Vec Ideal S1 .f32) shapeCasts_S1_S1x1 := by
  after_reads_simp
  rfl

theorem V11 (c : Dev nD) (b : Fin 8) (i : Fin 1568) : (V m c main_v11 : Vec Ideal S8x1x1568 .f32) (ix3 b 0 i) = N9 m c (ix2 b i) := by
  have h : (V m c main_v11 : Vec Ideal S8x1x1568 .f32) = shapeCast S8x1x1568 (N9 m c) shapeCasts_S8x1568_S8x1x1568 := by
    unfold N9
    show StableHlo.after (List.flatten [hostOps0, hostOps0_1, hostOps0_2]) (fun b => m (c, b)) (Proc.devRef .tc main_v11)
      = shapeCast S8x1x1568 (StableHlo.after (List.flatten [hostOps0, hostOps0_1, hostOps0_2]) (fun b => m (c, b)) (Proc.devRef .tc main_v9)) _
    rw [V_eq]
    exact last11 _
  rw [h]
  exact Cert.Ops.cast_read _ _ _ _ (by rw [Cert.Ops.val2, Cert.Ops.val3]; show b.val * 1568 + i.val = b.val * (1 * 1568) + (0 * 1568 + i.val); omega)

theorem V10 (c : Dev nD) : (V m c main_v10 : Vec Ideal S1x1 .f32) (ix2 0 0) = (m ((c.tc : Thread nD τ).loc main_arg2) : Vec Ideal S1 .f32) (ix1 0) := by
  have h : (V m c main_v10 : Vec Ideal S1x1 .f32) = shapeCast S1x1 (V m c main_arg2 : Vec Ideal S1 .f32) shapeCasts_S1_S1x1 := by
    show StableHlo.after (List.flatten [hostOps0, hostOps0_1, hostOps0_2]) (fun b => m (c, b)) (Proc.devRef .tc main_v10)
      = shapeCast S1x1 (StableHlo.after (List.flatten [hostOps0, hostOps0_1, hostOps0_2]) (fun b => m (c, b)) (Proc.devRef .tc main_arg2)) _
    rw [V_eq]
    exact last10 _
  rw [h, V_main_arg2]
  exact Cert.Ops.cast_read _ _ _ _ ((Cert.Ops.val1 (0 : Fin 1)).trans (Cert.Ops.val2 (0 : Fin 1) (0 : Fin 1)).symm)

/-! ### The windows' blocks at an index -/

theorem pt_lt (t : Fin cfg0.N) : t.val < 8 := t.isLt

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb0 (t : Fin cfg0.N) (i : Fin 1568) (k : Fin 384) :
    ((cfg0.win 0).blk t).view.emb (ix3 0 i k : S1x1568x384.Idx) = (ix3 ⟨t.val, pt_lt t⟩ i k : S8x1568x384.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 1568 + 1 * i.val = i.val; omega
  | ⟨2, _⟩ => show win0_0.index t (2 : Fin 3) * 384 + 1 * k.val = k.val; omega

theorem emb1 (t : Fin cfg0.N) (k : Fin 384) :
    ((cfg0.win 1).blk t).view.emb (ix2 0 k : S1x384.Idx) = (ix2 0 k : S1x384.Idx) := by
  obtain ⟨e0, e1⟩ := idx1 t
  funext a; apply Fin.ext
  match a with
  | ⟨0, _⟩ => show win0_1.index t (0 : Fin 2) * 1 + 1 * 0 = 0; omega
  | ⟨1, _⟩ => show win0_1.index t (1 : Fin 2) * 384 + 1 * k.val = k.val; omega

theorem emb2 (t : Fin cfg0.N) :
    ((cfg0.win 2).blk t).view.emb (ix2 0 0 : S1x1.Idx) = (ix2 0 0 : S1x1.Idx) := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1 + 1 * 0 = 0; omega

theorem emb3 (t : Fin cfg0.N) (i : Fin 1568) :
    ((cfg0.win 3).blk t).view.emb (ix3 0 0 i : S1x1x1568.Idx) = (ix3 ⟨t.val, pt_lt t⟩ 0 i : S8x1x1568.Idx) := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 1568 + 1 * i.val = i.val; omega

theorem emb4 (t : Fin cfg0.N) (r : Fin 196) (k : Fin 384) :
    ((cfg0.win 4).blk t).view.emb (ix3 0 r k : S1x196x384.Idx) = (ix3 ⟨t.val, pt_lt t⟩ r k : S8x196x384.Idx) := by
  obtain ⟨e0, e1, e2⟩ := idx4 t
  funext a; apply Fin.ext
  match a with
  | ⟨0, _⟩ => show win0_4.index t (0 : Fin 3) * 1 + 1 * 0 = t.val; omega
  | ⟨1, _⟩ => show win0_4.index t (1 : Fin 3) * 196 + 1 * r.val = r.val; omega
  | ⟨2, _⟩ => show win0_4.index t (2 : Fin 3) * 384 + 1 * k.val = k.val; omega

theorem iblk0 (c : Dev nD) (t : Fin cfg0.N) (i : Fin 1568) (k : Fin 384) : (iblk m c 0 t : Vec Ideal S1x1568x384 .f32) (ix3 0 i k)
    = (m ((c.tc : Thread nD τ).loc main_arg0) : Vec Ideal S8x1568x384 .f32) (ix3 ⟨t.val, pt_lt t⟩ i k) := by
  show (V m c main_arg0 : Vec Ideal S8x1568x384 .f32) (((cfg0.win 0).blk t).view.emb (ix3 0 i k : S1x1568x384.Idx)) = _
  rw [emb0, V_main_arg0]

theorem iblk1 (c : Dev nD) (t : Fin cfg0.N) (k : Fin 384) : (iblk m c 1 t : Vec Ideal S1x384 .f32) (ix2 0 k)
    = (m ((c.tc : Thread nD τ).loc main_arg1) : Vec Ideal S1x384 .f32) (ix2 0 k) := by
  show (V m c main_arg1 : Vec Ideal S1x384 .f32) (((cfg0.win 1).blk t).view.emb (ix2 0 k : S1x384.Idx)) = _
  rw [emb1, V_main_arg1]

theorem iblk2 (c : Dev nD) (t : Fin cfg0.N) : (iblk m c 2 t : Vec Ideal S1x1 .f32) (ix2 0 0)
    = (m ((c.tc : Thread nD τ).loc main_arg2) : Vec Ideal S1 .f32) (ix1 0) := by
  show (V m c main_v10 : Vec Ideal S1x1 .f32) (((cfg0.win 2).blk t).view.emb (ix2 0 0 : S1x1.Idx)) = _
  rw [emb2, V10]

theorem read3 (t : Fin cfg0.N) (A : Vec Ideal S8x1x1568 .f32) (i : Fin 1568) :
    (((cfg0.win 3).blk t).view.read (Elt Ideal) A : Vec Ideal S1x1x1568 .f32) (ix3 0 0 i) = A (ix3 ⟨t.val, pt_lt t⟩ 0 i) := by
  show A (((cfg0.win 3).blk t).view.emb (ix3 0 0 i : S1x1x1568.Idx)) = _
  rw [emb3]

theorem iblk3_eq (c : Dev nD) (t : Fin cfg0.N) : iblk m c 3 t = ((cfg0.win 3).blk t).view.read (Elt Ideal) (V m c main_v11) := rfl

theorem iblk3 (c : Dev nD) (t : Fin cfg0.N) (i : Fin 1568) : (iblk m c 3 t : Vec Ideal S1x1x1568 .f32) (ix3 0 0 i)
    = N9 m c (ix2 ⟨t.val, pt_lt t⟩ i) := by
  rw [iblk3_eq]
  exact (read3 t _ i).trans (V11 m c ⟨t.val, pt_lt t⟩ i)

/-! ### The result array -/

/-- The array the launch leaves. -/
def res (c : Dev nD) : Vec Ideal S8x196x384 .f32 := fun i =>
  merged (fun j k => (m ((c.tc : Thread nD τ).loc main_arg0) : Vec Ideal S8x1568x384 .f32) (ix3 (i 0) j k))
    (fun k => (m ((c.tc : Thread nD τ).loc main_arg1) : Vec Ideal S1x384 .f32) (ix2 0 k))
    ((m ((c.tc : Thread nD τ).loc main_arg2) : Vec Ideal S1 .f32) (ix1 0))
    (fun j => N9 m c (ix2 (i 0) j)) (i 1) (i 2)

variable (hN : ∀ (c : Dev nD) (b : Fin 8) (i : Fin 1568), 0 ≤ N9 m c (ix2 b i))

include hN

theorem outAt_read (c : Dev nD) (t : Fin cfg0.N) (r : Fin 196) (k : Fin 384) :
    Body.outAt m c t (ix3 0 r k) = res m c (ix3 ⟨t.val, pt_lt t⟩ r k) := by
  have hx : Kern.XX (iblk m c 0 t) = fun j k => (m ((c.tc : Thread nD τ).loc main_arg0) : Vec Ideal S8x1568x384 .f32) (ix3 ⟨t.val, pt_lt t⟩ j k) :=
    funext fun j => funext fun k => iblk0 m c t j k
  have hw : (fun k => (iblk m c 1 t : Vec Ideal S1x384 .f32) (ix2 0 k)) = fun k => (m ((c.tc : Thread nD τ).loc main_arg1) : Vec Ideal S1x384 .f32) (ix2 0 k) :=
    funext fun k => iblk1 m c t k
  have hn : Kern.NZ (iblk m c 3 t) = fun j => N9 m c (ix2 ⟨t.val, pt_lt t⟩ j) := funext fun j => iblk3 m c t j
  unfold Body.outAt
  rw [Kern.out_read (iblk m c 0 t) (iblk m c 3 t) (iblk m c 1 t) (iblk m c 2 t) (fun i => by rw [hn]; exact hN c _ i) r k, hx, hw, hn]
  rw [iblk2]
  rfl

theorem after4_read (c : Dev nD) (t : Fin cfg0.N) (y : S1x196x384.Idx) :
    Body.outAt m c t y = res m c (((cfg0.win 4).blk t).view.emb y) := by
  have hy : y = ix3 0 (y 1) (y 2) := by
    funext a
    match a with
    | ⟨0, _⟩ => exact Subsingleton.elim (α := Fin 1) _ _
    | ⟨1, _⟩ => rfl
    | ⟨2, _⟩ => rfl
  rw [hy]
  exact (outAt_read m hN c t (y 1) (y 2)).trans (congrArg (res m c) (emb4 t (y 1) (y 2)).symm)

/-- After the launch the result array is `res`. -/
theorem final4 (c : Dev nD) : (Body.dats m 0 c).arrAt 4 cfg0.N = res m c :=
  (Body.dats m 0 c).arrAt_eq_of_covers 4 (res m c) (by decide +kernel) fun t hf y => by
    refine Eq.trans ?_ (after4_read m hN c t y)
    rw [Body.after_4]
    rfl

/-- The run: the result array at `res`, the arguments unchanged. -/
theorem run : θ_run defs (onTc (τ := τ) (main (F := Ideal))) ⟨m, fun _ => 0, ρ⟩ fun r => ∀ c : Dev nD,
      r.2.mem ((c.tc : Thread nD τ).loc main_v12) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1.1 c).1 4).trans (final4 m hN c), h.2.1 c⟩)
    (θ_run_and (Body.run_main m ρ) (Body.frame_run m ρ))

end Cert.KernelIdeal.Result

end
-- ==== Proof.Algebraic.lean ====
/-
  The idealized kernel and the reference leave the same array.
-/
module

public import proofs.«01_k».proof.Proof.Noise
public import proofs.«01_k».proof.Proof.NoisePos
public import proofs.«01_k».proof.Proof.Result

@[expose] public section

set_option maxRecDepth 16384

noncomputable section

namespace Cert.Algebraic

open Idealize.ShloMosaic Idealize.ShloMosaic.TcCoe
open Idealize.SL.Sem
open Cert.Spec

variable (m : (ℓ : Loc Cert.KernelIdeal.nD Cert.KernelIdeal.τ Cert.KernelIdeal.sig) → Buf (Elt Ideal) ℓ)

theorem noise_eq (c : Dev Cert.KernelIdeal.nD) (V' : Valuation Cert.ReferenceIdeal.τ Cert.ReferenceIdeal.sig (Elt Ideal)) :
    Cert.KernelIdeal.Result.N9 m c = Cert.ReferenceIdeal.Val.N38 V' :=
  Cert.Noise.same (fun b => m (c, b)) V'

theorem noise_nonneg (c : Dev Cert.KernelIdeal.nD) (b : Fin 8) (i : Fin 1568) : 0 ≤ Cert.KernelIdeal.Result.N9 m c (ix2 b i) := by
  rw [noise_eq m c (fun _ => Classical.arbitrary _)]
  exact Cert.ReferenceIdeal.Val.noise_nonneg _ b i

/-- Of arguments that agree, the reference leaves the kernel's array. -/
theorem result_eq (c : Dev Cert.KernelIdeal.nD) (V' : Valuation Cert.ReferenceIdeal.τ Cert.ReferenceIdeal.sig (Elt Ideal))
    (h0 : (V' (Proc.devRef .tc Cert.ReferenceIdeal.main_arg0) : Vec Ideal Cert.ReferenceIdeal.S8x1568x384 .f32) = m ((c.tc : Thread Cert.KernelIdeal.nD Cert.KernelIdeal.τ).loc Cert.KernelIdeal.main_arg0))
    (h1 : (V' (Proc.devRef .tc Cert.ReferenceIdeal.main_arg1) : Vec Ideal Cert.ReferenceIdeal.S1x384 .f32) = m ((c.tc : Thread Cert.KernelIdeal.nD Cert.KernelIdeal.τ).loc Cert.KernelIdeal.main_arg1))
    (h2 : (V' (Proc.devRef .tc Cert.ReferenceIdeal.main_arg2) : Vec Ideal Cert.ReferenceIdeal.S1 .f32) = m ((c.tc : Thread Cert.KernelIdeal.nD Cert.KernelIdeal.τ).loc Cert.KernelIdeal.main_arg2)) :
    (StableHlo.after Cert.ReferenceIdeal.Host.line V' (Proc.devRef .tc Cert.ReferenceIdeal.main_v120) : Vec Ideal Cert.ReferenceIdeal.S8x196x384 .f32)
      = Cert.KernelIdeal.Result.res m c := by
  funext i
  rw [eq_ix3 i, Cert.ReferenceIdeal.Val.result_read V' (i 0) (i 1) (i 2)]
  unfold Cert.KernelIdeal.Result.res
  rw [noise_eq m c V']
  show merged (fun j k => (V' (Proc.devRef .tc Cert.ReferenceIdeal.main_arg0) : Vec Ideal Cert.ReferenceIdeal.S8x1568x384 .f32) (ix3 (i 0) j k))
    (fun k => (V' (Proc.devRef .tc Cert.ReferenceIdeal.main_arg1) : Vec Ideal Cert.ReferenceIdeal.S1x384 .f32) (ix2 0 k))
    ((V' (Proc.devRef .tc Cert.ReferenceIdeal.main_arg2) : Vec Ideal Cert.ReferenceIdeal.S1 .f32) (ix1 0)) _ _ _ = _
  rw [h0, h1, h2]
  rfl

end Cert.Algebraic

end
-- ==== Proof.lean ====
module

public import proofs.«01_k».proof.Defs
public import proofs.«01_k».proof.Proof.LaunchedBits
public import proofs.«01_k».proof.Proof.Launched
public import proofs.«01_k».proof.Proof.RefRun
public import proofs.«01_k».proof.Proof.Algebraic

@[expose] public section

noncomputable section

namespace Cert.Proof

open Idealize.ShloMosaic Idealize.SL.Sem

theorem algebraic : @Cert.algebraic_KernelIdeal_ReferenceIdeal Cert.KernelIdeal.Gen.facts Cert.ReferenceIdeal.Gen.facts := by
  intro m g m' g' _ hargs
  refine ⟨fun c => Cert.KernelIdeal.Result.res m c, ?_, ?_⟩
  · exact Cert.KernelIdeal.Result.run m g (Cert.Algebraic.noise_nonneg m)
  · refine (θ_run _ _ _).mono (fun r h c => ⟨?_, h.2.1 c⟩)
      (θ_run_and (Cert.ReferenceIdeal.Host.run m' g') (Cert.ReferenceIdeal.Host.frame_run m' g'))
    exact (h.1 c Cert.ReferenceIdeal.main_v120).trans
      (Cert.Algebraic.result_eq m c (StableHlo.launchContents m' c) (hargs c).1 (hargs c).2.1 (hargs c).2.2)

theorem claim : Cert.Claim :=
  ⟨Cert.Kernel.Gen.facts, Cert.KernelIdeal.Gen.facts, Cert.ReferenceIdeal.Gen.facts,
    fun m g _ => Cert.Kernel.Body.frame_run m g,
    fun m g _ => Cert.KernelIdeal.Body.frame_run m g,
    fun m g _ => Cert.ReferenceIdeal.Host.frame_run m g,
    trivial,
    algebraic⟩

end Cert.Proof

end
